-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "r0" .f32 0x3B443730#32 ((1 / 334 : ℝ) : EReal)
  ∧ IdealRules.named_const.Statement Cert.KernelIdeal.κ "r1" .f32 0x3B44CE08#32 ((1 / 333 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024000x32 : Shape := ⟨2, ![1024000, 32]⟩
abbrev S32768000 : Shape := ⟨1, ![32768000]⟩
abbrev S98304 : Shape := ⟨1, ![98304]⟩
abbrev S32000 : Shape := ⟨1, ![32000]⟩
abbrev S3072 : Shape := ⟨1, ![3072]⟩
abbrev S_ : Shape := ⟨0, ![]⟩
abbrev S16 : Shape := ⟨1, ![16]⟩
abbrev S512x192 : Shape := ⟨2, ![512, 192]⟩

abbrev nBuf : Table → Nat
  | .hbm => 4
  | .local .scVector .vmem => 3
  | _ => 0

abbrev bufTy : (tb : Table) → Fin (nBuf tb) → BufTy
  | .hbm, ⟨0, _⟩ => ⟨S1024000x32, .f32⟩
  | .hbm, ⟨1, _⟩ => ⟨S32768000, .f32⟩
  | .hbm, ⟨2, _⟩ => ⟨S98304, .f32⟩
  | .hbm, ⟨3, _⟩ => ⟨S512x192, .f32⟩
  | .local .scVector .vmem, ⟨0, _⟩ => ⟨S32000, .f32⟩
  | .local .scVector .vmem, ⟨1, _⟩ => ⟨S32000, .f32⟩
  | .local .scVector .vmem, ⟨2, _⟩ => ⟨S3072, .f32⟩
  | _, _ => ⟨S1024000x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024000_i32 : BitVec 32 := 1024000#32
  let v2 : BitVec 32 := Scalar.muli v1 c1024000_i32
  let v3 : BitVec 32 := Scalar.addi v2 c0_i32
  ![v3.toNat]
@[reducible] def k0_t1_loop : Scf.Loop 32 :=
  let c0_i32_1 : BitVec 32 := 0#32
  let c15_i32 : BitVec 32 := 15#32
  let v9 : BitVec 32 := Scalar.addi c0_i32_1 c15_i32
  let c1_i32 : BitVec 32 := 1#32
  ⟨c0_i32_1, v9, c1_i32⟩
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024000_i32 : BitVec 32 := 1024000#32
  let v2 : BitVec 32 := Scalar.muli v1 c1024000_i32
  ![v2.toNat]
@[reducible] def k0_t2_loop : Scf.Loop 32 :=
  let c0_i32_27 : BitVec 32 := 0#32
  let c111_i32_28 : BitVec 32 := 111#32
  let v97 : BitVec 32 := Scalar.addi c0_i32_27 c111_i32_28
  let c1_i32_29 : BitVec 32 := 1#32
  ⟨c0_i32_27, v97, c1_i32_29⟩
def k0_off3 (k0_t2 : Fin k0_t2_loop.trips) (c0_i32_64 : BitVec 32) (c0_i32_65 : BitVec 32) (c0_i32_66 : BitVec 32) : Fin 1 → Nat :=
  let c0_i32_27 : BitVec 32 := 0#32
  let c1_i32_29 : BitVec 32 := 1#32
  let arg10 : BitVec 32 := Scf.iv c0_i32_27 c1_i32_29 k0_t2
  let c288_i32 : BitVec 32 := 288#32
  let v213 : BitVec 32 := Scalar.muli arg10 c288_i32
  let v214 : BitVec 32 := Scalar.addi v213 c0_i32_64
  let v215 : BitVec 32 := Scalar.addi v214 c0_i32_65
  let v216 : BitVec 32 := Scalar.addi v215 c0_i32_66
  let v217 : Index := Scalar.indexCast v216
  ![v217.toNat]
def k0_off4 (k0_t1 : Fin k0_t1_loop.trips) (c0_i32_39 : BitVec 32) : Fin 1 → Nat :=
  let c2_i32_25 : BitVec 32 := 2#32
  let c0_i32_1 : BitVec 32 := 0#32
  let c1_i32 : BitVec 32 := 1#32
  let arg9 : BitVec 32 := Scf.iv c0_i32_1 c1_i32 k0_t1
  let v93 : BitVec 32 := Scalar.muli c2_i32_25 arg9
  let c96_i32 : BitVec 32 := 96#32
  let v117 : BitVec 32 := Scalar.muli v93 c96_i32
  let v118 : BitVec 32 := Scalar.addi v117 c0_i32_39
  let v119 : Index := Scalar.indexCast v118
  ![v119.toNat]
def k0_off5 (i : grid0.Coords) (k0_t1 : Fin k0_t1_loop.trips) (c2_i32_40 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024000_i32 : BitVec 32 := 1024000#32
  let v2 : BitVec 32 := Scalar.muli v1 c1024000_i32
  let c2_i32_25 : BitVec 32 := 2#32
  let c0_i32_1 : BitVec 32 := 0#32
  let c1_i32 : BitVec 32 := 1#32
  let arg9 : BitVec 32 := Scf.iv c0_i32_1 c1_i32 k0_t1
  let v93 : BitVec 32 := Scalar.muli c2_i32_25 arg9
  let v148 : BitVec 32 := Scalar.addi v93 c2_i32_40
  let c32000_i32_41 : BitVec 32 := 32000#32
  let v149 : BitVec 32 := Scalar.muli v148 c32000_i32_41
  let v150 : BitVec 32 := Scalar.addi v2 v149
  ![v150.toNat]
@[reducible] def k0_t3_loop : Scf.Loop 32 :=
  let c0_i32_44 : BitVec 32 := 0#32
  let c111_i32_45 : BitVec 32 := 111#32
  let v157 : BitVec 32 := Scalar.addi c0_i32_44 c111_i32_45
  let c1_i32_46 : BitVec 32 := 1#32
  ⟨c0_i32_44, v157, c1_i32_46⟩
def k0_off6 (k0_t3 : Fin k0_t3_loop.trips) (c0_i32_64 : BitVec 32) (c0_i32_65 : BitVec 32) (c0_i32_66 : BitVec 32) : Fin 1 → Nat :=
  let c0_i32_44 : BitVec 32 := 0#32
  let c1_i32_46 : BitVec 32 := 1#32
  let arg10 : BitVec 32 := Scf.iv c0_i32_44 c1_i32_46 k0_t3
  let c288_i32 : BitVec 32 := 288#32
  let v213 : BitVec 32 := Scalar.muli arg10 c288_i32
  let v214 : BitVec 32 := Scalar.addi v213 c0_i32_64
  let v215 : BitVec 32 := Scalar.addi v214 c0_i32_65
  let v216 : BitVec 32 := Scalar.addi v215 c0_i32_66
  let v217 : Index := Scalar.indexCast v216
  ![v217.toNat]
def k0_off7 (k0_t1 : Fin k0_t1_loop.trips) (c0_i32_57 : BitVec 32) : Fin 1 → Nat :=
  let c2_i32_25 : BitVec 32 := 2#32
  let c0_i32_1 : BitVec 32 := 0#32
  let c1_i32 : BitVec 32 := 1#32
  let arg9 : BitVec 32 := Scf.iv c0_i32_1 c1_i32 k0_t1
  let v93 : BitVec 32 := Scalar.muli c2_i32_25 arg9
  let c1_i32_42 : BitVec 32 := 1#32
  let v155 : BitVec 32 := Scalar.addi v93 c1_i32_42
  let c96_i32_56 : BitVec 32 := 96#32
  let v177 : BitVec 32 := Scalar.muli v155 c96_i32_56
  let v178 : BitVec 32 := Scalar.addi v177 c0_i32_57
  let v179 : Index := Scalar.indexCast v178
  ![v179.toNat]
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024000_i32 : BitVec 32 := 1024000#32
  let v2 : BitVec 32 := Scalar.muli v1 c1024000_i32
  ![v2.toNat]
@[reducible] def k0_t4_loop : Scf.Loop 32 :=
  let c0_i32_3 : BitVec 32 := 0#32
  let c111_i32 : BitVec 32 := 111#32
  let v13 : BitVec 32 := Scalar.addi c0_i32_3 c111_i32
  let c1_i32_4 : BitVec 32 := 1#32
  ⟨c0_i32_3, v13, c1_i32_4⟩
def k0_off9 (k0_t4 : Fin k0_t4_loop.trips) (c0_i32_25 : BitVec 32) (c0_i32_26 : BitVec 32) (c0_i32_27 : BitVec 32) : Fin 1 → Nat :=
  let c0_i32_3 : BitVec 32 := 0#32
  let c1_i32_4 : BitVec 32 := 1#32
  let arg9 : BitVec 32 := Scf.iv c0_i32_3 c1_i32_4 k0_t4
  let c288_i32 : BitVec 32 := 288#32
  let v93 : BitVec 32 := Scalar.muli arg9 c288_i32
  let v94 : BitVec 32 := Scalar.addi v93 c0_i32_25
  let v95 : BitVec 32 := Scalar.addi v94 c0_i32_26
  let v96 : BitVec 32 := Scalar.addi v95 c0_i32_27
  let v97 : Index := Scalar.indexCast v96
  ![v97.toNat]
@[reducible] def k0_t5_loop : Scf.Loop 32 :=
  let c0_i32_13 : BitVec 32 := 0#32
  let c111_i32_14 : BitVec 32 := 111#32
  let v54 : BitVec 32 := Scalar.addi c0_i32_13 c111_i32_14
  let c1_i32_15 : BitVec 32 := 1#32
  ⟨c0_i32_13, v54, c1_i32_15⟩
def k0_off10 (k0_t5 : Fin k0_t5_loop.trips) (c0_i32_25 : BitVec 32) (c0_i32_26 : BitVec 32) (c0_i32_27 : BitVec 32) : Fin 1 → Nat :=
  let c0_i32_13 : BitVec 32 := 0#32
  let c1_i32_15 : BitVec 32 := 1#32
  let arg9 : BitVec 32 := Scf.iv c0_i32_13 c1_i32_15 k0_t5
  let c288_i32 : BitVec 32 := 288#32
  let v93 : BitVec 32 := Scalar.muli arg9 c288_i32
  let v94 : BitVec 32 := Scalar.addi v93 c0_i32_25
  let v95 : BitVec 32 := Scalar.addi v94 c0_i32_26
  let v96 : BitVec 32 := Scalar.addi v95 c0_i32_27
  let v97 : Index := Scalar.indexCast v96
  ![v97.toNat]
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v92 : BitVec 32 := Scalar.muli v1 c3072_i32
  ![v92.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "r0" => some ((1 / 334 : ℝ) : EReal)
  | "r1" => some ((1 / 333 : ℝ) : EReal)
  | _ => none
-- ==== ReferenceIdeal.lean ====
abbrev S1024000x32 : Shape := ⟨2, ![1024000, 32]⟩
abbrev S1024000 : Shape := ⟨1, ![1024000]⟩
abbrev S_ : Shape := ⟨0, ![]⟩
abbrev S1024000x1 : Shape := ⟨2, ![1024000, 1]⟩
abbrev S3073x32 : Shape := ⟨2, ![3073, 32]⟩
abbrev S3072x32 : Shape := ⟨2, ![3072, 32]⟩
abbrev S3073 : Shape := ⟨1, ![3073]⟩
abbrev S3072 : Shape := ⟨1, ![3072]⟩
abbrev S3072x1 : Shape := ⟨2, ![3072, 1]⟩
abbrev S512x192 : Shape := ⟨2, ![512, 192]⟩

abbrev nBuf : Space → Nat
  | .hbm => 66
  | .vmem => 0
  | .smem => 0
  | _ => 0

abbrev bufTy : (tb : Table) → Fin (tcTables nBuf tb) → BufTy
  | .hbm, ⟨0, _⟩ => ⟨S1024000x32, .f32⟩
  | .hbm, ⟨1, _⟩ => ⟨S1024000, .i32⟩
  | .hbm, ⟨2, _⟩ => ⟨S_, .i32⟩
  | .hbm, ⟨3, _⟩ => ⟨S1024000, .i32⟩
  | .hbm, ⟨4, _⟩ => ⟨S1024000, .i32⟩
  | .hbm, ⟨5, _⟩ => ⟨S_, .i32⟩
  | .hbm, ⟨6, _⟩ => ⟨S1024000, .i32⟩
  | .hbm, ⟨7, _⟩ => ⟨S1024000, .i32⟩
  | .hbm, ⟨8, _⟩ => ⟨S_, .i32⟩
  | .hbm, ⟨9, _⟩ => ⟨S1024000, .i32⟩
  | .hbm, ⟨10, _⟩ => ⟨S1024000, .i32⟩
  | .hbm, ⟨11, _⟩ => ⟨S_, .i32⟩
  | .hbm, ⟨12, _⟩ => ⟨S1024000, .i32⟩
  | .hbm, ⟨13, _⟩ => ⟨S1024000, .i32⟩
  | .hbm, ⟨14, _⟩ => ⟨S_, .i32⟩
  | .hbm, ⟨15, _⟩ => ⟨S1024000, .i32⟩
  | .hbm, ⟨16, _⟩ => ⟨S1024000, .i32⟩
  | .hbm, ⟨17, _⟩ => ⟨S_, .i32⟩
  | .hbm, ⟨18, _⟩ => ⟨S1024000, .i32⟩
  | .hbm, ⟨19, _⟩ => ⟨S1024000, .i32⟩
  | .hbm, ⟨20, _⟩ => ⟨S_, .i32⟩
  | .hbm, ⟨21, _⟩ => ⟨S1024000, .i32⟩
  | .hbm, ⟨22, _⟩ => ⟨S1024000, .i32⟩
  | .hbm, ⟨23, _⟩ => ⟨S_, .i32⟩
  | .hbm, ⟨24, _⟩ => ⟨S1024000, .i32⟩
  | .hbm, ⟨25, _⟩ => ⟨S1024000, .i1⟩
  | .hbm, ⟨26, _⟩ => ⟨S1024000, .i32⟩
  | .hbm, ⟨27, _⟩ => ⟨S1024000, .i32⟩
  | .hbm, ⟨28, _⟩ => ⟨S_, .i32⟩
  | .hbm, ⟨29, _⟩ => ⟨S1024000, .i32⟩
  | .hbm, ⟨30, _⟩ => ⟨S1024000, .i1⟩
  | .hbm, ⟨31, _⟩ => ⟨S_, .i32⟩
  | .hbm, ⟨32, _⟩ => ⟨S_, .i32⟩
  | .hbm, ⟨33, _⟩ => ⟨S1024000, .i32⟩
  | .hbm, ⟨34, _⟩ => ⟨S1024000, .i32⟩
  | .hbm, ⟨35, _⟩ => ⟨S1024000x1, .i1⟩
  | .hbm, ⟨36, _⟩ => ⟨S_, .f32⟩
  | .hbm, ⟨37, _⟩ => ⟨S1024000x32, .f32⟩
  | .hbm, ⟨38, _⟩ => ⟨S1024000x32, .i1⟩
  | .hbm, ⟨39, _⟩ => ⟨S1024000x32, .f32⟩
  | .hbm, ⟨40, _⟩ => ⟨S_, .f32⟩
  | .hbm, ⟨41, _⟩ => ⟨S3073x32, .f32⟩
  | .hbm, ⟨42, _⟩ => ⟨S1024000x1, .i32⟩
  | .hbm, ⟨43, _⟩ => ⟨S3073x32, .f32⟩
  | .hbm, ⟨44, _⟩ => ⟨S3072x32, .f32⟩
  | .hbm, ⟨45, _⟩ => ⟨S1024000, .f32⟩
  | .hbm, ⟨46, _⟩ => ⟨S_, .f32⟩
  | .hbm, ⟨47, _⟩ => ⟨S3073, .f32⟩
  | .hbm, ⟨48, _⟩ => ⟨S1024000x1, .i32⟩
  | .hbm, ⟨49, _⟩ => ⟨S3073, .f32⟩
  | .hbm, ⟨50, _⟩ => ⟨S3072, .f32⟩
  | .hbm, ⟨51, _⟩ => ⟨S3072x1, .f32⟩
  | .hbm, ⟨52, _⟩ => ⟨S_, .f32⟩
  | .hbm, ⟨53, _⟩ => ⟨S3072x1, .f32⟩
  | .hbm, ⟨54, _⟩ => ⟨S3072x1, .i1⟩
  | .hbm, ⟨55, _⟩ => ⟨S_, .f32⟩
  | .hbm, ⟨56, _⟩ => ⟨S3072, .f32⟩
  | .hbm, ⟨57, _⟩ => ⟨S3072, .f32⟩
  | .hbm, ⟨58, _⟩ => ⟨S3072x1, .f32⟩
  | .hbm, ⟨59, _⟩ => ⟨S3072x32, .f32⟩
  | .hbm, ⟨60, _⟩ => ⟨S3072x32, .f32⟩
  | .hbm, ⟨61, _⟩ => ⟨S_, .f32⟩
  | .hbm, ⟨62, _⟩ => ⟨S3072x32, .f32⟩
  | .hbm, ⟨63, _⟩ => ⟨S3072x32, .i1⟩
  | .hbm, ⟨64, _⟩ => ⟨S3072x32, .f32⟩
  | .hbm, ⟨65, _⟩ => ⟨S512x192, .f32⟩
  | _, _ => ⟨S1024000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_v12 : Ref sig .tc := ⟨.hbm, 19, rfl⟩
abbrev main_c_5 : Ref sig .tc := ⟨.hbm, 20, rfl⟩
abbrev main_v13 : Ref sig .tc := ⟨.hbm, 21, rfl⟩
abbrev main_v14 : Ref sig .tc := ⟨.hbm, 22, rfl⟩
abbrev main_c_6 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_7 : Ref sig .tc := ⟨.hbm, 28, rfl⟩
abbrev main_v19 : Ref sig .tc := ⟨.hbm, 29, rfl⟩
abbrev main_v20 : Ref sig .tc := ⟨.hbm, 30, rfl⟩
abbrev main_c_8 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_call2_v0 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_call3_v0 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Proof.KernelIdeal.Chunk.lean ====
/-
  What one chunk contributes. A chunk is 1000 rows of 32 lanes laid out flat (32000 words); the kernel sums its rows by
  the row's number modulo 3 and multiplies each of the three sums by a constant. Here are those sums and means as plain
  functions of the chunk's words, in the order the kernel adds them, and the equations by which one trip of the kernel's
  inner loop extends them.
-/
module

public import proofs.«01_k».proof.Defs
public import proofs.«01_k».proof.Proof.Gen.KernelIdeal
public import proofs.«01_k».proof.Proof.Gen.KernelIdeal.Skeleton
public import Idealize.ShloMosaic.Lib.Pipeline.Value

@[expose] public section

noncomputable section

namespace Cert.Proof.KernelIdeal

open Cert.KernelIdeal Cert.KernelIdeal.Gen
open Idealize.ShloMosaic

variable {F : FTy → Type} [FloatOps F] [Named F]

/-- The factor of residue 0 (334 of a chunk's rows) and of residues 1 and 2 (333 each). -/
def r0 : F .f32 := Named.named κ "r0" 0x3B443730#32
def r1 : F .f32 := Named.named κ "r1" 0x3B44CE08#32

/-- Word `n` of a chunk. -/
def word (c : S32000.Idx → F .f32) (n : ℕ) : F .f32 :=
  c fun a => ⟨n % 32000, by obtain rfl : a = 0 := Subsingleton.elim _ _; exact Nat.mod_lt _ (by decide)⟩

/-- The sum of the first `n` words of the column that starts at word `o`: every third row, so 96 words apart. -/
def colSum (c : S32000.Idx → F .f32) (o : ℕ) : ℕ → F .f32
  | 0 => Scalar.ofBits .f32 0x00000000#32
  | n + 1 => FloatOps.addf (colSum c o n) (word c (o + 96 * n))

/-- Column `o` (residue `o / 32`, lane `o % 32`): its sum over all the chunk's rows, times the residue's factor. -/
def mean (c : S32000.Idx → F .f32) (o : ℕ) : F .f32 :=
  if o < 32 then FloatOps.mulf (colSum c o 334) r0 else FloatOps.mulf (colSum c o 333) r1

/-- Sixteen columns from `o`, summed over `n` rows of their residue, as a vector. -/
def sums (c : S32000.Idx → F .f32) (o n : ℕ) : FVec F S16 .f32 := fun j => colSum c (o + (j 0).val) n

/-- The six accumulators of the inner loop after `n` rows of each residue. -/
def accs (c : S32000.Idx → F .f32) (n : ℕ) :
    FVec F S16 .f32 × FVec F S16 .f32 × FVec F S16 .f32 × FVec F S16 .f32 × FVec F S16 .f32 × FVec F S16 .f32 :=
  (sums c 0 n, sums c 16 n, sums c 32 n, sums c 48 n, sums c 64 n, sums c 80 n)

/-- Sixteen words from word `n`, as a vector. -/
def words (c : S32000.Idx → F .f32) (n : ℕ) : FVec F S16 .f32 := fun j => word c (n + (j 0).val)

theorem sums_zero (c : S32000.Idx → F .f32) (o : ℕ) :
    sums c o 0 = (broadcast S16 (Scalar.ofBits .f32 0x00000000#32 : F .f32) : FVec F S16 .f32) := rfl

theorem sums_succ (c : S32000.Idx → F .f32) (o n : ℕ) : sums c o (n + 1) = addf (sums c o n) (words c (o + 96 * n)) := by
  funext j
  show FloatOps.addf _ (word c (o + (j 0).val + 96 * n)) = FloatOps.addf _ (word c (o + 96 * n + (j 0).val))
  rw [Nat.add_right_comm]
  rfl

/-- A load of sixteen words at a unit-stride box is `words` at the box's offset. -/
theorem read_words (c : S32000.Idx → F .f32) (off : Fin 1 → ℕ) (h : ∀ a, off a + S16.size a ≤ S32000.size a) (n : ℕ) (hn : off 0 = n) :
    (fun x => c ((Rect.unit (s := S32000) off S16.size h).toLoadRect.idx x) : FVec F S16 .f32) = words c n := by
  subst hn
  funext x
  unfold words word
  refine congrArg c ?_
  funext a
  obtain rfl : a = 0 := Subsingleton.elim _ _
  apply Fin.ext
  have hx : (x 0).val < 16 := (x 0).isLt
  have h0 : off 0 + 16 ≤ 32000 := h 0
  rw [LoadRect.idx_apply]
  show off 0 + 1 * (x 0).val = (off 0 + (x 0).val) % 32000
  rw [Nat.mod_eq_of_lt (by omega), Nat.one_mul]

/-- Three rows added to one accumulator. -/
theorem three_rows (c : S32000.Idx → F .f32) (o k : ℕ) {w₁ w₂ w₃ : Vec F S16 .f32} (h₁ : w₁ = words c (288 * k + o))
    (h₂ : w₂ = words c (288 * k + 96 + o)) (h₃ : w₃ = words c (288 * k + 192 + o)) :
    addf (addf (addf (sums c o (3 * k)) (shapeCast S16 w₁ shapeCasts_S16_S16)) (shapeCast S16 w₂ shapeCasts_S16_S16))
        (shapeCast S16 w₃ shapeCasts_S16_S16) = sums c o (3 * (k + 1)) := by
  rw [shapeCast_self, shapeCast_self, shapeCast_self, h₁, h₂, h₃, show 3 * (k + 1) = 3 * k + 1 + 1 + 1 by omega, sums_succ, sums_succ, sums_succ,
    show o + 96 * (3 * k) = 288 * k + o by omega, show o + 96 * (3 * k + 1) = 288 * k + 96 + o by omega,
    show o + 96 * (3 * k + 1 + 1) = 288 * k + 192 + o by omega]

/-- One trip of the inner loop: `w r p h` is the load of half `h` of row `3 * (3 * k + r) + p`. -/
theorem accs_step (c : S32000.Idx → F .f32) (k : ℕ) (w : Fin 3 → Fin 3 → Fin 2 → Vec F S16 .f32)
    (hw : ∀ r p h, w r p h = words c (288 * k + 96 * r.val + 32 * p.val + 16 * h.val)) :
    ((addf (addf (addf (accs c (3 * k)).1 (shapeCast S16 (w 0 0 0) shapeCasts_S16_S16)) (shapeCast S16 (w 1 0 0) shapeCasts_S16_S16)) (shapeCast S16 (w 2 0 0) shapeCasts_S16_S16),
      addf (addf (addf (accs c (3 * k)).2.1 (shapeCast S16 (w 0 0 1) shapeCasts_S16_S16)) (shapeCast S16 (w 1 0 1) shapeCasts_S16_S16)) (shapeCast S16 (w 2 0 1) shapeCasts_S16_S16),
      addf (addf (addf (accs c (3 * k)).2.2.1 (shapeCast S16 (w 0 1 0) shapeCasts_S16_S16)) (shapeCast S16 (w 1 1 0) shapeCasts_S16_S16)) (shapeCast S16 (w 2 1 0) shapeCasts_S16_S16),
      addf (addf (addf (accs c (3 * k)).2.2.2.1 (shapeCast S16 (w 0 1 1) shapeCasts_S16_S16)) (shapeCast S16 (w 1 1 1) shapeCasts_S16_S16)) (shapeCast S16 (w 2 1 1) shapeCasts_S16_S16),
      addf (addf (addf (accs c (3 * k)).2.2.2.2.1 (shapeCast S16 (w 0 2 0) shapeCasts_S16_S16)) (shapeCast S16 (w 1 2 0) shapeCasts_S16_S16)) (shapeCast S16 (w 2 2 0) shapeCasts_S16_S16),
      addf (addf (addf (accs c (3 * k)).2.2.2.2.2 (shapeCast S16 (w 0 2 1) shapeCasts_S16_S16)) (shapeCast S16 (w 1 2 1) shapeCasts_S16_S16)) (shapeCast S16 (w 2 2 1) shapeCasts_S16_S16))
        : FVec F S16 .f32 × FVec F S16 .f32 × FVec F S16 .f32 × FVec F S16 .f32 × FVec F S16 .f32 × FVec F S16 .f32) = accs c (3 * (k + 1)) := by
  have A : ∀ p h (o : ℕ), o = 32 * p.val + 16 * h.val →
      addf (addf (addf (sums c o (3 * k)) (shapeCast S16 (w 0 p h) shapeCasts_S16_S16)) (shapeCast S16 (w 1 p h) shapeCasts_S16_S16))
        (shapeCast S16 (w 2 p h) shapeCasts_S16_S16) = sums c o (3 * (k + 1)) := by
    rintro p h o rfl
    refine three_rows c _ k ((hw 0 p h).trans ?_) ((hw 1 p h).trans ?_) ((hw 2 p h).trans ?_) <;>
      · congr 1
        simp only [Fin.val_zero, Fin.val_one, Fin.val_two]
        omega
  exact Prod.ext (A 0 0 0 rfl) (Prod.ext (A 0 1 16 rfl) (Prod.ext (A 1 0 32 rfl) (Prod.ext (A 1 1 48 rfl) (Prod.ext (A 2 0 64 rfl) (A 2 1 80 rfl)))))

/-- Chunk `g` of the flat input: 32000 words from `32000 * g`. -/
def chunk (x : S32768000.Idx → F .f32) (g : ℕ) : S32000.Idx → F .f32 :=
  fun i => x fun a => ⟨(32000 * g + (i 0).val) % 32768000, by obtain rfl : a = 0 := Subsingleton.elim _ _; exact Nat.mod_lt _ (by decide)⟩

/-- Word `n` of the flat result: a mean of chunk `n / 96`. -/
def outWord (x : S32768000.Idx → F .f32) (n : ℕ) : F .f32 := mean (chunk x (n / 96)) (n % 96)

end Cert.Proof.KernelIdeal

end
-- ==== Proof.KernelIdeal.Setup.lean ====
/-
  The program as the launch theorem sees it, its resource algebra, and the names of its buffers: the flat input `x`, the
  flat output `o`, and of each tile its two chunk buffers, its staging buffer and its three transfer semaphores.
-/
module

public import proofs.«01_k».proof.Proof.KernelIdeal.Chunk
public import Idealize.ShloMosaic.Lib.SparseCore.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The argument, the flat input, the flat output, the result, as locations of device `d`. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The same two flat arrays as a tile addresses them, and the tile's own three buffers. -/
abbrev xV : Memref sig .scVector .hbm S32768000 .f32 := Memref.whole main_v0_scv
abbrev oV : Memref sig .scVector .hbm S98304 .f32 := Memref.whole main_v1_scv
abbrev bufA : Memref sig .scVector .vmem S32000 .f32 := Memref.whole cc0_scratch0
abbrev bufB : Memref sig .scVector .vmem S32000 .f32 := Memref.whole cc0_scratch1
abbrev bufO : Memref sig .scVector .vmem S3072 .f32 := Memref.whole cc0_scratch2

/-- The tile at grid coordinates `L`: its SparseCore, its subcore, its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The tile's number among the 32. -/
def tile (L : grid0.Coords) : ℕ := 2 * (L 1).val + (L 0).val

theorem tile_lt (L : grid0.Coords) : tile L < 32 := by
  have h0 : (L 0).val < 2 := (L 0).isLt
  have h1 : (L 1).val < 16 := (L 1).isLt
  unfold tile; omega

end Cert.Proof.KernelIdeal

end
-- ==== Proof.KernelIdeal.Inner.lean ====
/-
  The kernel's inner loops: 111 trips, each adding three rows of each residue to the six accumulators.
-/
module

public import proofs.«01_k».proof.Proof.KernelIdeal.Setup

@[expose] public section

set_option warn.classDefReducibility false

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

variable (d : Dev nD) (L : grid0.Coords)

/-- The six accumulators a chunk's loop carries. -/
abbrev Acc (F : FTy → Type) : Type := FVec F S16 .f32 × FVec F S16 .f32 × FVec F S16 .f32 × FVec F S16 .f32 × FVec F S16 .f32 × FVec F S16 .f32

/-- A load of sixteen words of a chunk's buffer. -/
theorem load_A (c : Buf (Elt F) ((thr d L).loc cc0_scratch0)) (off : Fin 1 → ℕ) (h : ∀ a, off a + S16.size a ≤ S32000.size a) (n : ℕ) (hn : off 0 = n) :
    (View.readAt (Elt F) bufA.view (Rect.unit (s := S32000) off S16.size h).toLoadRect c : FVec F S16 .f32) = words c n :=
  read_words c off h n hn
/-- The same of the second buffer. -/
theorem load_B (c : Buf (Elt F) ((thr d L).loc cc0_scratch1)) (off : Fin 1 → ℕ) (h : ∀ a, off a + S16.size a ≤ S32000.size a) (n : ℕ) (hn : off 0 = n) :
    (View.readAt (Elt F) bufB.view (Rect.unit (s := S32000) off S16.size h).toLoadRect c : FVec F S16 .f32) = words c n :=
  read_words c off h n hn

/-- The inner loops' invariant over the first buffer, holding the chunk `c`: the accumulators at the sums of the rows added so far. -/
def invA (c : Buf (Elt F) ((thr d L).loc cc0_scratch0)) (k : ℕ) (acc : Acc F) : sProp 𝕄 := iprop(⌜acc = accs c (3 * k)⌝ ∗ bufA.view.loc (thr d L) ↦{fullShare} c)
/-- The same over the second buffer. -/
def invB (c : Buf (Elt F) ((thr d L).loc cc0_scratch1)) (k : ℕ) (acc : Acc F) : sProp 𝕄 := iprop(⌜acc = accs c (3 * k)⌝ ∗ bufB.view.loc (thr d L) ↦{fullShare} c)

/-- The loop over the first buffer inside the outer loop. -/
@[sl_loop] def loop2 (c : Buf (Elt F) ((thr d L).loc cc0_scratch0)) (x₁ x₂ : BitVec 32) (t : Fin k0_t1_loop.trips) :
    LoopInv (M := 𝕄) frame (wpE (defs₀ (F := F)) 𝒱₀ (thr d L) none) Set.univ k0_t2_loop.lb k0_t2_loop.ub k0_t2_loop.st k0_t2_ok
      (k0_pay41 (F := F), k0_pay41 (F := F), k0_pay41 (F := F), k0_pay41 (F := F), k0_pay41 (F := F), k0_pay41 (F := F))
      (k0_t2_body L xV (Memref.isWhole_whole _) oV (Memref.isWhole_whole _) bufA (Memref.isWhole_whole _) bufB (Memref.isWhole_whole _) bufO (Memref.isWhole_whole _)
          cc0_scratch3 cc0_scratch4 cc0_scoped0 x₁ x₂ t) where
  inv := invA d L c
  step k acc := by
    unfold k0_t2_body invA
    iintro ⟨%ha, HA⟩
    sl_exec
    sl_step
    isplitr
    · ipureintro
      subst ha
      exact accs_step c k.val (fun r p h => View.readAt (Elt F) bufA.view (Rect.unit (s := S32000)
        (k0_off3 k (BitVec.ofNat 32 (96 * r.val)) (BitVec.ofNat 32 (32 * p.val)) (BitVec.ofNat 32 (16 * h.val)))
        S16.size (k0_off3_inb k r p h)).toLoadRect c) fun r p h => load_A d L c _ _ _ (by rw [k0_off3_eq]; rfl)
    · iexact HA

/-- The loop over the second buffer inside the outer loop. -/
@[sl_loop] def loop3 (c : Buf (Elt F) ((thr d L).loc cc0_scratch1)) (x₁ : BitVec 32) (t : Fin k0_t1_loop.trips) (x₂ : BitVec 32) (w₁ w₂ w₃ w₄ : FVec F S16 .f32) (x₃ : BitVec 32) (w₅ : Vec F S16 .f32) :
    LoopInv (M := 𝕄) frame (wpE (defs₀ (F := F)) 𝒱₀ (thr d L) none) Set.univ k0_t3_loop.lb k0_t3_loop.ub k0_t3_loop.st k0_t3_ok
      (k0_pay53 (F := F), k0_pay53 (F := F), k0_pay53 (F := F), k0_pay53 (F := F), k0_pay53 (F := F), k0_pay53 (F := F))
      (k0_t3_body L xV (Memref.isWhole_whole _) oV (Memref.isWhole_whole _) bufA (Memref.isWhole_whole _) bufB (Memref.isWhole_whole _) bufO (Memref.isWhole_whole _)
          cc0_scratch3 cc0_scratch4 cc0_scoped0 x₁ t x₂ w₁ w₂ w₃ w₄ x₃ w₅) where
  inv := invB d L c
  step k acc := by
    unfold k0_t3_body invB
    iintro ⟨%ha, HA⟩
    sl_exec
    sl_step
    isplitr
    · ipureintro
      subst ha
      exact accs_step c k.val (fun r p h => View.readAt (Elt F) bufB.view (Rect.unit (s := S32000)
        (k0_off6 k (BitVec.ofNat 32 (96 * r.val)) (BitVec.ofNat 32 (32 * p.val)) (BitVec.ofNat 32 (16 * h.val)))
        S16.size (k0_off6_inb k r p h)).toLoadRect c) fun r p h => load_B d L c _ _ _ (by rw [k0_off6_eq]; rfl)
    · iexact HA

/-- The loop over the first buffer after the outer loop. -/
@[sl_loop] def loop4 (c : Buf (Elt F) ((thr d L).loc cc0_scratch0))  :
    LoopInv (M := 𝕄) frame (wpE (defs₀ (F := F)) 𝒱₀ (thr d L) none) Set.univ k0_t4_loop.lb k0_t4_loop.ub k0_t4_loop.st k0_t4_ok
      (k0_pay97 (F := F), k0_pay97 (F := F), k0_pay97 (F := F), k0_pay97 (F := F), k0_pay97 (F := F), k0_pay97 (F := F))
      (k0_t4_body L xV (Memref.isWhole_whole _) oV (Memref.isWhole_whole _) bufA (Memref.isWhole_whole _) bufB (Memref.isWhole_whole _) bufO (Memref.isWhole_whole _)
          cc0_scratch3 cc0_scratch4 cc0_scoped0 ) where
  inv := invA d L c
  step k acc := by
    unfold k0_t4_body invA
    iintro ⟨%ha, HA⟩
    sl_exec
    sl_step
    isplitr
    · ipureintro
      subst ha
      exact accs_step c k.val (fun r p h => View.readAt (Elt F) bufA.view (Rect.unit (s := S32000)
        (k0_off9 k (BitVec.ofNat 32 (96 * r.val)) (BitVec.ofNat 32 (32 * p.val)) (BitVec.ofNat 32 (16 * h.val)))
        S16.size (k0_off9_inb k r p h)).toLoadRect c) fun r p h => load_A d L c _ _ _ (by rw [k0_off9_eq]; rfl)
    · iexact HA

/-- The loop over the second buffer after the outer loop. -/
@[sl_loop] def loop5 (c : Buf (Elt F) ((thr d L).loc cc0_scratch1)) (w₁ w₂ w₃ w₄ w₅ w₆ w₇ : FVec F S16 .f32) :
    LoopInv (M := 𝕄) frame (wpE (defs₀ (F := F)) 𝒱₀ (thr d L) none) Set.univ k0_t5_loop.lb k0_t5_loop.ub k0_t5_loop.st k0_t5_ok
      (k0_pay111 (F := F), k0_pay111 (F := F), k0_pay111 (F := F), k0_pay111 (F := F), k0_pay111 (F := F), k0_pay111 (F := F))
      (k0_t5_body L xV (Memref.isWhole_whole _) oV (Memref.isWhole_whole _) bufA (Memref.isWhole_whole _) bufB (Memref.isWhole_whole _) bufO (Memref.isWhole_whole _)
          cc0_scratch3 cc0_scratch4 cc0_scoped0 w₁ w₂ w₃ w₄ w₅ w₆ w₇) where
  inv := invB d L c
  step k acc := by
    unfold k0_t5_body invB
    iintro ⟨%ha, HA⟩
    sl_exec
    sl_step
    isplitr
    · ipureintro
      subst ha
      exact accs_step c k.val (fun r p h => View.readAt (Elt F) bufB.view (Rect.unit (s := S32000)
        (k0_off10 k (BitVec.ofNat 32 (96 * r.val)) (BitVec.ofNat 32 (32 * p.val)) (BitVec.ofNat 32 (16 * h.val)))
        S16.size (k0_off10_inb k r p h)).toLoadRect c) fun r p h => load_B d L c _ _ _ (by rw [k0_off10_eq]; rfl)
    · iexact HA

end Cert.Proof.KernelIdeal

end
-- ==== Proof.KernelIdeal.Trip.lean ====
/-
  One trip of the kernel's outer loop: a chunk from each of the two buffers, and the next two copies started.
-/
module

public import proofs.«01_k».proof.Proof.KernelIdeal.Inner

@[expose] public section

set_option warn.classDefReducibility false

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

variable (d : Dev nD) (L : grid0.Coords)

/-- The first `n` words of the result's buffer are those of `val`. -/
def Good (val : ℕ → F .f32) (n : ℕ) (f : S3072.Idx → F .f32) : Prop := ∀ i, (i 0).val < n → f i = val (i 0).val

/-- Sixteen more words. -/
theorem Good.store {val : ℕ → F .f32} {n : ℕ} {f : S3072.Idx → F .f32} {l : List (View.Piece (Elt F) S3072 .f32)}
    (h : Good val n (bufO.view.writes (Elt F) f l)) {off : Fin 1 → ℕ} (hb : ∀ a, off a + S16.size a ≤ S3072.size a) (ho : off 0 = n)
    {w : FVec F S16 .f32} (hw : ∀ j, w j = val (n + (j 0).val)) :
    Good val (n + 16) (bufO.view.writes (Elt F) f (⟨Rect.unit (s := S3072) off S16.size hb, w⟩ :: l)) := by
  intro i hi
  show View.read (Elt F) bufO.view (bufO.view.writes (Elt F) f (⟨Rect.unit (s := S3072) off S16.size hb, w⟩ :: l)) i = _
  by_cases hn : (i 0).val < n
  · refine (View.read_writes_cons_miss_of_axis (Val := Elt F) bufO.view f ⟨Rect.unit (s := S3072) off S16.size hb, w⟩ l i (0 : Fin 1) n 16 ho rfl rfl (Or.inl hn)).trans ?_
    exact h i hn
  · refine (View.read_writes_cons_hit_of_coords bufO.view f (Rect.unit (s := S3072) off S16.size hb) w l
      (fun a => ⟨(i a).val - off a, ?_⟩) i ?_).trans ((hw _).trans ?_)
    · obtain rfl : a = 0 := Subsingleton.elim _ _
      show (i 0).val - off 0 < 16
      omega
    · intro a
      obtain rfl : a = 0 := Subsingleton.elim _ _
      show (i 0).val = off 0 + 1 * ((i 0).val - off 0)
      omega
    · show val (n + ((i 0).val - off 0)) = _
      congr 1
      omega

/-- What is stored of a residue of 334 rows. -/
theorem pay_long (c : S32000.Idx → F .f32) {T o : ℕ} (hT : T = 333) (ho : o + 16 ≤ 32) {w : Vec F S16 .f32} (hw : w = words c (o + 31968)) (j : S16.Idx) :
    shapeCast S16 (mulf (addf (sums c o T) (shapeCast S16 w shapeCasts_S16_S16)) (broadcast S16 (r0 (F := F)))) shapeCasts_S16_S16 j = mean c (o + (j 0).val) := by
  subst hT hw
  rw [shapeCast_self, shapeCast_self, ← sums_succ c o 333]
  have hj : (j 0).val < 16 := (j 0).isLt
  exact (if_pos (show o + (j 0).val < 32 by omega)).symm

/-- What is stored of a residue of 333 rows. -/
theorem pay_short (c : S32000.Idx → F .f32) {T o : ℕ} (hT : T = 333) (ho : 32 ≤ o) (j : S16.Idx) :
    shapeCast S16 (mulf (sums c o T) (broadcast S16 (r1 (F := F)))) shapeCasts_S16_S16 j = mean c (o + (j 0).val) := by
  subst hT
  rw [shapeCast_self]
  exact (if_neg (show ¬ o + (j 0).val < 32 by omega)).symm

/-- The six stores of a chunk. -/
theorem Good.chunk {val : ℕ → F .f32} {n : ℕ} {f : S3072.Idx → F .f32} {l : List (View.Piece (Elt F) S3072 .f32)}
    (h : Good val n (bufO.view.writes (Elt F) f l)) (c : S32000.Idx → F .f32) (hc : ∀ o, o < 96 → val (n + o) = mean c o) {T : ℕ} (hT : T = 333)
    {w₁ w₂ : Vec F S16 .f32} (hw₁ : w₁ = words c 31968) (hw₂ : w₂ = words c 31984)
    {o₀ o₁ o₂ o₃ o₄ o₅ : Fin 1 → ℕ} (h₀ : ∀ a, o₀ a + S16.size a ≤ S3072.size a) (h₁ : ∀ a, o₁ a + S16.size a ≤ S3072.size a)
    (h₂ : ∀ a, o₂ a + S16.size a ≤ S3072.size a) (h₃ : ∀ a, o₃ a + S16.size a ≤ S3072.size a) (h₄ : ∀ a, o₄ a + S16.size a ≤ S3072.size a)
    (h₅ : ∀ a, o₅ a + S16.size a ≤ S3072.size a)
    (e₀ : o₀ 0 = n) (e₁ : o₁ 0 = n + 16) (e₂ : o₂ 0 = n + 32) (e₃ : o₃ 0 = n + 48) (e₄ : o₄ 0 = n + 64) (e₅ : o₅ 0 = n + 80) :
    Good val (n + 96) (bufO.view.writes (Elt F) f
      (⟨Rect.unit (s := S3072) o₅ S16.size h₅, (shapeCast S16 (mulf (sums c 80 T) (broadcast S16 (r1 (F := F)))) shapeCasts_S16_S16 : FVec F S16 .f32)⟩ ::
       ⟨Rect.unit (s := S3072) o₄ S16.size h₄, (shapeCast S16 (mulf (sums c 64 T) (broadcast S16 (r1 (F := F)))) shapeCasts_S16_S16 : FVec F S16 .f32)⟩ ::
       ⟨Rect.unit (s := S3072) o₃ S16.size h₃, (shapeCast S16 (mulf (sums c 48 T) (broadcast S16 (r1 (F := F)))) shapeCasts_S16_S16 : FVec F S16 .f32)⟩ ::
       ⟨Rect.unit (s := S3072) o₂ S16.size h₂, (shapeCast S16 (mulf (sums c 32 T) (broadcast S16 (r1 (F := F)))) shapeCasts_S16_S16 : FVec F S16 .f32)⟩ ::
       ⟨Rect.unit (s := S3072) o₁ S16.size h₁, (shapeCast S16 (mulf (addf (sums c 16 T) (shapeCast S16 w₂ shapeCasts_S16_S16)) (broadcast S16 (r0 (F := F)))) shapeCasts_S16_S16 : FVec F S16 .f32)⟩ ::
       ⟨Rect.unit (s := S3072) o₀ S16.size h₀, (shapeCast S16 (mulf (addf (sums c 0 T) (shapeCast S16 w₁ shapeCasts_S16_S16)) (broadcast S16 (r0 (F := F)))) shapeCasts_S16_S16 : FVec F S16 .f32)⟩ :: l)) := by
  have V : ∀ o (j : S16.Idx), o + 16 ≤ 96 → val (n + o + (j 0).val) = mean c (o + (j 0).val) := fun o j ho => by
    have hj : (j 0).val < 16 := (j 0).isLt
    rw [Nat.add_assoc]
    exact hc _ (by omega)
  exact (((((h.store h₀ e₀ fun j => (pay_long c hT (by omega) hw₁ j).trans (V 0 j (by omega)).symm).store h₁ e₁
    fun j => (pay_long c hT (by omega) hw₂ j).trans (V 16 j (by omega)).symm).store h₂ e₂
    fun j => (pay_short c hT (by omega) j).trans (V 32 j (by omega)).symm).store h₃ e₃
    fun j => (pay_short c hT (by omega) j).trans (V 48 j (by omega)).symm).store h₄ e₄
    fun j => (pay_short c hT (by omega) j).trans (V 64 j (by omega)).symm).store h₅ e₅
    fun j => (pay_short c hT (by omega) j).trans (V 80 j (by omega)).symm

/-- What a tile writes: the words of the flat result from `3072` times its number. -/
def tileWord (x : S32768000.Idx → F .f32) (n : ℕ) : F .f32 := outWord x (3072 * tile L + n)

/-- The words of the tile's chunk `g`. -/
theorem tileWord_eq (x : S32768000.Idx → F .f32) (n g o : ℕ) (hn : n = 96 * g) (ho : o < 96) : tileWord L x (n + o) = mean (chunk x (32 * tile L + g)) o := by
  unfold tileWord outWord
  rw [show (3072 * tile L + (n + o)) / 96 = 32 * tile L + g by omega, show (3072 * tile L + (n + o)) % 96 = o by omega]

/-- What a copy of 32000 words of the input from `32000 * g` brings. -/
theorem read_chunk (x : S32768000.Idx → F .f32) (off : Fin 1 → ℕ) (h : ∀ a, off a + S32000.size a ≤ S32768000.size a) (g : ℕ) (hg : off 0 = 32000 * g) :
    (fun i => View.read (Elt F) (xV.slice (Rect.unit (s := S32768000) off S32000.size h) (fun _ => rfl)).view x i) = chunk x g := by
  funext i
  refine congrArg x (funext fun (a : Fin 1) => Fin.ext ?_)
  obtain rfl : a = 0 := Subsingleton.elim _ _
  have hi : (i 0).val < 32000 := (i 0).isLt
  have h0 : off 0 + 32000 ≤ 32768000 := h 0
  show off 0 + 1 * (i 0).val = (32000 * g + (i 0).val) % 32768000
  omega

/-- The copy under way into the first buffer, of chunk `g` of this tile, and what the share of the input it reads keeps. -/
def flyA (q : PosShare TreeShare) (x : Buf (Elt F) (xV.view.loc (thr d L))) (g : ℕ) : sProp 𝕄 :=
  iprop(∃ I, Transfers.Flight (countersEmb (U := UU)) (thr d L) (.dma cc0_scratch3.sem) default 1024000
      iprop((bufA.view.loc (thr d L) ↦{fullShare} chunk x (32 * tile L + g)) ∗ (xV.view.loc (thr d L) ↦[I]{q} x))
    ∗ (xV.view.loc (thr d L) ↦[Finset.univ \ I]{q} x))
/-- The same of the second buffer. -/
def flyB (q : PosShare TreeShare) (x : Buf (Elt F) (xV.view.loc (thr d L))) (g : ℕ) : sProp 𝕄 :=
  iprop(∃ I, Transfers.Flight (countersEmb (U := UU)) (thr d L) (.dma cc0_scratch4.sem) default 1024000
      iprop((bufB.view.loc (thr d L) ↦{fullShare} chunk x (32 * tile L + g)) ∗ (xV.view.loc (thr d L) ↦[I]{q} x))
    ∗ (xV.view.loc (thr d L) ↦[Finset.univ \ I]{q} x))

/-- The outer loop's invariant at trip `t`. -/
def outerInv (q₁ q₂ : PosShare TreeShare) (x : Buf (Elt F) (xV.view.loc (thr d L))) (O : CellTallies nD τ sig (HIx 1)) (W : Waits sig (HIx 1)) (t : ℕ) : sProp 𝕄 :=
  iprop(Transfers.MayWaits (thr d L) (default : HIx 1) O ∗ flyA d L q₁ x (2 * t) ∗ flyB d L q₂ x (2 * t + 1)
    ∗ (∃ f, ⌜Good (tileWord L x) (192 * t) f⌝ ∗ bufO.view.loc (thr d L) ↦{fullShare} f)
    ∗ ∃ W', ⌜∀ p ∈ W', p ∈ W ∨ p.2 = none⌝ ∗ owes (thr d L) O W')

set_option maxRecDepth 8192 in
theorem trip1 (q₁ q₂ : PosShare TreeShare) (x : Buf (Elt F) (xV.view.loc (thr d L))) (O : CellTallies nD τ sig (HIx 1)) (W : Waits sig (HIx 1)) (v : BitVec 32) (t : Fin k0_t1_loop.trips) (u : Unit) :
    outerInv d L q₁ q₂ x O W t.val
      ⊢ wp frame (wpE (defs₀ (F := F)) 𝒱₀ (thr d L) none) Set.univ
          (k0_t1_body L xV (Memref.isWhole_whole _) oV (Memref.isWhole_whole _) bufA (Memref.isWhole_whole _) bufB (Memref.isWhole_whole _) bufO (Memref.isWhole_whole _)
            cc0_scratch3 cc0_scratch4 cc0_scoped0 v t u)
          fun _ => outerInv d L q₁ q₂ x O W (t.val + 1) := by
  unfold k0_t1_body outerInv flyA flyB
  iintro ⟨#Hmw, ⟨%I₁, HfA, Hx₁⟩, ⟨%I₂, HfB, Hx₂⟩, ⟨%f, %hf, HO⟩, ⟨%W', %hW, Ho⟩⟩
  sl_exec
  have eA : View.write (Elt F) bufA.view (chunk x (32 * tile L + 2 * t.val)) (trip1.sl.dma14 d L x t) Finset.univ = chunk x (32 * tile L + 2 * (t.val + 1)) :=
    (View.write_whole_univ _ _ _).trans (read_chunk x (k0_off5 L t (BitVec.ofNat 32 (2 + (0 : Fin 2).val))) (k0_off5_inb L t 0) _ (by
      rw [k0_off5_eq]; unfold tile; simp; omega))
  have eB : View.write (Elt F) bufB.view (chunk x (32 * tile L + (2 * t.val + 1))) (trip1.sl.dma14_1 d L x t) Finset.univ = chunk x (32 * tile L + (2 * (t.val + 1) + 1)) :=
    (View.write_whole_univ _ _ _).trans (read_chunk x (k0_off5 L t (BitVec.ofNat 32 (2 + (1 : Fin 2).val))) (k0_off5_inb L t 1) _ (by
      rw [k0_off5_eq]; unfold tile; simp; omega))
  rw [eA, eB]
  sl_step
  isplitl []; · iexact Hmw
  isplitl [HfA Hx₁]
  · iexists _
    isplitl [HfA]; · iexact HfA
    iexact Hx₁
  isplitl [HfB Hx₂]
  · iexists _
    isplitl [HfB]; · iexact HfB
    iexact Hx₂
  isplitl [HO]
  · iexists _
    isplitr; swap; · iexact HO
    ipureintro
    rw [show 192 * (t.val + 1) = 192 * t.val + 96 + 96 by omega]
    exact (Good.chunk (l := []) hf (chunk x (32 * tile L + 2 * t.val)) (fun o ho => tileWord_eq L x _ _ _ (by omega) ho)
      (T := 3 * Scf.trips k0_t2_loop.lb k0_t2_loop.ub k0_t2_loop.st) (by decide)
      (load_A d L _ _ _ _ rfl) (load_A d L _ _ _ _ rfl)
      (k0_off4_inb t 0) (k0_off4_inb t 1) (k0_off4_inb t 2) (k0_off4_inb t 3) (k0_off4_inb t 4) (k0_off4_inb t 5)
      (congrFun (k0_off4_eq t 0) 0) (congrFun (k0_off4_eq t 1) 0) (congrFun (k0_off4_eq t 2) 0) (congrFun (k0_off4_eq t 3) 0)
      (congrFun (k0_off4_eq t 4) 0) (congrFun (k0_off4_eq t 5) 0)).chunk
      (chunk x (32 * tile L + (2 * t.val + 1))) (fun o ho => tileWord_eq L x _ _ _ (by omega) ho)
      (T := 3 * Scf.trips k0_t3_loop.lb k0_t3_loop.ub k0_t3_loop.st) (by decide)
      (load_B d L _ _ _ _ rfl) (load_B d L _ _ _ _ rfl)
      (k0_off7_inb t 0) (k0_off7_inb t 1) (k0_off7_inb t 2) (k0_off7_inb t 3) (k0_off7_inb t 4) (k0_off7_inb t 5)
      (congrFun (k0_off7_eq t 0) 0) (congrFun (k0_off7_eq t 1) 0) (congrFun (k0_off7_eq t 2) 0) (congrFun (k0_off7_eq t 3) 0)
      (congrFun (k0_off7_eq t 4) 0) (congrFun (k0_off7_eq t 5) 0)
  · iexists _
    isplitr; swap; · iexact Ho
    ipureintro
    intro p hp
    rcases Finset.mem_insert.mp hp with hp | hp
    · exact .inr (hp ▸ rfl)
    rcases Finset.mem_insert.mp hp with hp | hp
    · exact .inr (hp ▸ rfl)
    exact hW p hp

end Cert.Proof.KernelIdeal

end
-- ==== Proof.KernelIdeal.Tile.lean ====
/-
  The task of one vector subcore: the two first copies, the outer loop, the last two chunks, and the copy of the
  tile's 3072 words into its part of the flat result.
-/
module

public import proofs.«01_k».proof.Proof.KernelIdeal.Trip

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

variable (d : Dev nD) (L : grid0.Coords)

/-- The three semaphores of a tile. -/
abbrev cellA : GSem nD τ sig := (thr d L, .dma cc0_scratch3.sem)
abbrev cellB : GSem nD τ sig := (thr d L, .dma cc0_scratch4.sem)
abbrev cellO : GSem nD τ sig := (thr d L, .dma cc0_scoped0.sem)

omit [FloatOps F] [Named F] in
/-- The three are among the subcore's own: they are them and the rest. -/
theorem ownSems0_V :
    (ownSems0 (thr d L) : sProp 𝕄)
      = iprop(semVal (cellA d L) 0 ∗ semVal (cellB d L) 0 ∗ semVal (cellO d L) 0
          ∗ bigSep ((((ownCells (thr d L)).erase (cellA d L)).erase (cellB d L)).erase (cellO d L)) fun g => semVal g 0) := by
  unfold SparseCore.Cfg.ownSems0
  have h : ∀ s : DmaSem sig, (SemLoc.dma s : SemLoc sig).isScoped .scVector = true → ((thr d L, SemLoc.dma s) : GSem nD τ sig) ∈ ownCells (thr d L) :=
    fun s hs => mem_ownCells.mpr ⟨rfl, hs⟩
  rw [SparseCore.bigSep_erase' (h cc0_scratch3.sem (by decide)),
    SparseCore.bigSep_erase' (Finset.mem_erase.mpr ⟨by simp; decide, h cc0_scratch4.sem (by decide)⟩),
    SparseCore.bigSep_erase' (Finset.mem_erase.mpr ⟨by simp; decide, Finset.mem_erase.mpr ⟨by simp; decide, h cc0_scoped0.sem (by decide)⟩⟩)]

/-- The three buffers of a tile, as the device names them. -/
abbrev devRef (b : Ref sig .scVector) : DevRef τ sig := (Proc.scVector (cV L) (jV L)).devRef b

omit [FloatOps F] [Named F] in
/-- The three buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (devRef L cc0_scratch0)).erase (devRef L cc0_scratch1)).erase (devRef L cc0_scratch2))
              fun b => iprop(∃ f, ((d, b) : Loc nD τ sig) ↦{fullShare} f)) := by
  unfold SparseCore.Cfg.ownBufs
  have hne : ∀ b b' : Ref sig .scVector, b ≠ b' → devRef L b ≠ devRef L b' := fun b b' h e => h (Proc.devRef_injective _ e)
  refine (SparseCore.bigSep_erase' (SparseCore.Cfg.mem_ownRefs_of_owner (p := Proc.scVector (cV L) (jV L)) (b := devRef L cc0_scratch0) rfl)).trans ?_
  rw [SparseCore.bigSep_erase' (Finset.mem_erase.mpr ⟨hne cc0_scratch1 cc0_scratch0 (by decide),
      SparseCore.Cfg.mem_ownRefs_of_owner (p := Proc.scVector (cV L) (jV L)) (b := devRef L cc0_scratch1) rfl⟩),
    SparseCore.bigSep_erase' (Finset.mem_erase.mpr ⟨hne cc0_scratch2 cc0_scratch1 (by decide), Finset.mem_erase.mpr ⟨hne cc0_scratch2 cc0_scratch0 (by decide),
      SparseCore.Cfg.mem_ownRefs_of_owner (p := Proc.scVector (cV L) (jV L)) (b := devRef L cc0_scratch2) rfl⟩⟩)]

/-- The tile's part of the flat result, as the task addresses it. -/
abbrev outK : Memref sig .scVector .hbm S3072 .f32 := oV.slice (Rect.unit (s := S98304) (k0_off11 L) S3072.size (k0_off11_inb L)) (fun _ => rfl)

/-- The flat result of the input `x`. -/
def outFlat (x : S32768000.Idx → F .f32) : S98304.Idx → F .f32 := fun i => outWord x (i 0).val

/-- What the last copy leaves on the tile's part is the flat result there. -/
theorem write_out (x : S32768000.Idx → F .f32) (f : S98304.Idx → F .f32) (g : S3072.Idx → F .f32) (hg : Good (tileWord L x) 3072 g) :
    ∀ i ∈ (outK L).view.set, View.write (Elt F) (outK L).view f g Finset.univ i = outFlat x i := by
  intro i hi
  obtain ⟨j, -, rfl⟩ := Finset.mem_map.mp hi
  refine (View.write_emb_of_mem (Val := Elt F) (v := (outK L).view) f g (Finset.mem_univ j)).trans ?_
  refine (cast_eq _ _).trans ((hg j (j 0).isLt).trans ?_)
  show outWord x (3072 * tile L + (j 0).val) = outWord x (k0_off11 L 0 + 1 * (j 0).val)
  rw [k0_off11_eq]
  unfold tile
  congr 1
  simp
  omega

/-- What a task works on: two shares of the input and its part of the flat result. -/
abbrev taskPts (q₁ q₂ : PosShare TreeShare) (x : Buf (Elt F) (xV.view.loc (thr d L))) (f : Buf (Elt F) (oV.view.loc (thr d L))) : sProp 𝕄 :=
  iprop((xV.view.loc (thr d L) ↦{q₁} x) ∗ (xV.view.loc (thr d L) ↦{q₂} x) ∗ oV.view.loc (thr d L) ↦[(outK L).view.set]{fullShare} f)

set_option maxRecDepth 8192 in
/-- The task of vector subcore `(L 0, L 1)`: its part of the flat result left at the means of its 32 chunks. -/
theorem tile_body (hF : (K (F := F)).Facts) (q₁ q₂ : PosShare TreeShare) (x : Buf (Elt F) (xV.view.loc (thr d L))) (f₀ : Buf (Elt F) (oV.view.loc (thr d L)))
    (O : CellTallies nD τ sig (HIx 1)) (W : Waits sig (HIx 1)) (hO : ∀ g, O g none = 0) :
    iprop(levAts (K (F := F)).L (K (F := F)).lev ∗ emp
        ∗ taskPts d L q₁ q₂ x f₀
        ∗ scopedBufs (thr d L) ∗ scopedSems0 (thr d L) ∗ owes (thr d L) O W)
      ⊢ wp frame (wpE (defs₀ (F := F)) 𝒱₀ (thr d L) none) Set.univ
          (cc0__sc_body L xV (Memref.isWhole_whole _) oV (Memref.isWhole_whole _) bufA (Memref.isWhole_whole _) bufB (Memref.isWhole_whole _) bufO (Memref.isWhole_whole _)
            cc0_scratch3 cc0_scratch4 cc0_scoped0)
          fun _ => iprop(taskPts d L q₁ q₂ x (outFlat x)
            ∗ scopedBufs (thr d L) ∗ scopedSems0 (thr d L) ∗ ∃ W', ⌜∀ p ∈ W', p ∈ W ∨ p.2 = none⌝ ∗ owes (thr d L) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx₁, Hx₂, Ho⟩, ⟨⟨%fa, Ha⟩, ⟨%fb, Hb⟩, ⟨%fo, HO⟩, Hbufs⟩, ⟨HsA, HsB, HsO, Hsems⟩, Hw⟩
  ihave #Hmw := (show levAts (K (F := F)).L (K (F := F)).lev ⊢ Transfers.MayWaits (thr d L) (default : HIx 1) O from
    (K (F := F)).mayWaits_none (thr := thr d L) hO) $$ Hlv
  ihave Ha := (Entails.of_eq (show ((thr d L).loc cc0_scratch0 ↦{fullShare} fa : sProp 𝕄) = bufA.view.loc (thr d L) ↦{fullShare} fa from rfl)) $$ Ha
  ihave Hb := (Entails.of_eq (show ((thr d L).loc cc0_scratch1 ↦{fullShare} fb : sProp 𝕄) = bufB.view.loc (thr d L) ↦{fullShare} fb from rfl)) $$ Hb
  ihave HO := (Entails.of_eq (show ((thr d L).loc cc0_scratch2 ↦{fullShare} fo : sProp 𝕄) = bufO.view.loc (thr d L) ↦{fullShare} fo from rfl)) $$ HO
  sl_exec
  have eA : View.write (Elt F) bufA.view fa (tile_body.sl.dma0 d L x) Finset.univ = chunk x (32 * tile L + 2 * 0) :=
    (View.write_whole_univ _ _ _).trans (read_chunk x (k0_off1 L (BitVec.ofNat 32 (32000 * (0 : Fin 2).val))) (k0_off1_inb L 0) _ (by
      rw [k0_off1_eq]; unfold tile; simp; omega))
  have eB : View.write (Elt F) bufB.view fb (tile_body.sl.dma0_1 d L x) Finset.univ = chunk x (32 * tile L + (2 * 0 + 1)) :=
    (View.write_whole_univ _ _ _).trans (read_chunk x (k0_off1 L (BitVec.ofNat 32 (32000 * (1 : Fin 2).val))) (k0_off1_inb L 1) _ (by
      rw [k0_off1_eq]; unfold tile; simp; omega))
  rw [eA, eB]
  sl_for (fun t _ => outerInv d L q₁ q₂ x O W t) $$ [HsA Hx₁ HsB Hx₂ HO Hw]
  case region => exact fun t u => trip1 d L q₁ q₂ x O W _ t u
  · unfold outerInv flyA flyB
    isplitl []; · iexact Hmw
    isplitl [HsA Hx₁]
    · iexists _
      isplitl [HsA]; · iexact HsA
      iexact Hx₁
    isplitl [HsB Hx₂]
    · iexists _
      isplitl [HsB]; · iexact HsB
      iexact Hx₂
    isplitl [HO]
    · iexists _
      isplitr; swap; · iexact HO
      ipureintro
      intro i hi
      exact absurd hi (by omega)
    · iexists W
      isplitr; swap; · iexact Hw
      ipureintro
      exact fun p hp => .inl hp
  iintro %_ HI
  unfold outerInv flyA flyB
  icases HI with ⟨-, ⟨%I₁, HsA, Hx₁⟩, ⟨%I₂, HsB, Hx₂⟩, ⟨%f, %hf, HO⟩, ⟨%W', %hW, Hw⟩⟩
  ihave Ho := (Entails.of_eq (show (oV.view.loc (thr d L) ↦[(outK L).view.set]{fullShare} f₀ : sProp 𝕄)
    = (outK L).view.loc (thr d L) ↦[(outK L).view.set]{fullShare} f₀ from rfl)) $$ Ho
  sl_exec
  have hf' : Good (tileWord L x) 2880 f := (show 192 * Scf.trips k0_t1_loop.lb k0_t1_loop.ub k0_t1_loop.st = 2880 by decide) ▸ hf
  have hg : Good (tileWord L x) 3072 (bufO.view.writes (Elt F) f (tile_body.sl.HO_12 d L x)) :=
    (Good.chunk (l := []) hf' (chunk x (32 * tile L + 2 * Scf.trips k0_t1_loop.lb k0_t1_loop.ub k0_t1_loop.st))
      (fun o ho => tileWord_eq L x _ _ _ (by decide) ho)
      (T := 3 * Scf.trips k0_t4_loop.lb k0_t4_loop.ub k0_t4_loop.st) (by decide)
      (load_A d L _ _ _ _ rfl) (load_A d L _ _ _ _ rfl)
      inb_S3072_S16_2880 inb_S3072_S16_2896 inb_S3072_S16_2912 inb_S3072_S16_2928 inb_S3072_S16_2944 inb_S3072_S16_2960 rfl rfl rfl rfl rfl rfl).chunk
      (chunk x (32 * tile L + (2 * Scf.trips k0_t1_loop.lb k0_t1_loop.ub k0_t1_loop.st + 1))) (fun o ho => tileWord_eq L x _ _ _ (by decide) ho)
      (T := 3 * Scf.trips k0_t5_loop.lb k0_t5_loop.ub k0_t5_loop.st) (by decide)
      (load_B d L _ _ _ _ rfl) (load_B d L _ _ _ _ rfl)
      inb_S3072_S16_2976 inb_S3072_S16_2992 inb_S3072_S16_3008 inb_S3072_S16_3024 inb_S3072_S16_3040 inb_S3072_S16_3056 rfl rfl rfl rfl rfl rfl
  have eo : ((outK L).view.loc (thr d L) ↦[(outK L).view.set]{fullShare}
        (outK L).view.writes (Elt F) f₀ [⟨Rect.whole S3072, tile_body.sl.dma14 d L x f⟩] : sProp 𝕄)
      = oV.view.loc (thr d L) ↦[(outK L).view.set]{fullShare} outFlat x := by
    rw [← View.write_univ_eq_writes_whole]
    exact pointsTo_congr (write_out L x f₀ _ hg)
  ihave Ho := (Entails.of_eq eo) $$ Ho
  sl_step
  isplitl [Hx₁ Hx₂ Ho]
  · isplitl [Hx₁]; · iexact Hx₁
    isplitl [Hx₂]; · iexact Hx₂
    iexact Ho
  isplitl [HsA_dst HsB_dst HO Hbufs]
  · isplitl [HsA_dst]; · iexists _; iexact HsA_dst
    isplitl [HsB_dst]; · iexists _; iexact HsB_dst
    isplitl [HO]; · iexists _; iexact HO
    iexact Hbufs
  isplitl [HsA HsB HsO Hsems]
  · isplitl [HsA]; · iexact HsA
    isplitl [HsB]; · iexact HsB
    isplitl [HsO]; · iexact HsO
    iexact Hsems
  iexists _; isplitr
  swap; · iexact Hw
  ipureintro
  intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW p hp

end Cert.Proof.KernelIdeal

end
-- ==== Proof.KernelIdeal.Pieces.lean ====
/-
  The two flat arrays cut among the 32 tiles: each tile gets two shares of the whole input, one for each of its chunk
  buffers, and its own 3072 words of the output; all of them together are the input and the output, whole.
-/
module

public import proofs.«01_k».proof.Proof.KernelIdeal.Tile
public import Idealize.ShloMosaic.Lib.ShareLeaves

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem tile_coordsV (c : Fin 2) (s : Fin 16) : tile (coordsV c s) = 2 * s.val + c.val := rfl

/-- The elements of a tile's part of the flat output. -/
abbrev oSet (L : grid0.Coords) : Finset S98304.Idx := (outK L).view.set

/-- A tile's part is the 3072 words from 3072 times its number. -/
theorem mem_oSet (L : grid0.Coords) (j : S98304.Idx) : j ∈ oSet L ↔ 3072 * tile L ≤ (j 0).val ∧ (j 0).val < 3072 * tile L + 3072 := by
  have e : oSet L = (Rect.unit (s := S98304) (k0_off11 L) S3072.size (k0_off11_inb L)).set := by
    show ((View.whole (main_v1_scv : Ref sig .scVector)).slice (Rect.unit (s := S98304) (k0_off11 L) S3072.size (k0_off11_inb L))).set = _
    rw [View.set_slice]; exact Finset.map_refl
  have e0 : k0_off11 L 0 = 3072 * tile L := by
    rw [k0_off11_eq]; unfold tile; simp; omega
  rw [e, LoadRect.mem_set]
  constructor
  · intro h
    obtain ⟨k, hk, hj⟩ := h 0
    have hk' : k < 3072 := hk
    have hj' : (j 0).val = k0_off11 L 0 + 1 * k := hj
    omega
  · rintro ⟨h1, h2⟩ (a : Fin 1)
    obtain rfl : a = 0 := Subsingleton.elim _ _
    refine ⟨(j 0).val - 3072 * tile L, show _ < 3072 by omega, ?_⟩
    show (j 0).val = k0_off11 L 0 + 1 * _
    omega

/-- The part of the tile at a SparseCore and a subcore. -/
abbrev part (p : Fin 2 × Fin 16) : Finset S98304.Idx := oSet (coordsV p.1 p.2)

theorem part_disjoint (p : Fin 2 × Fin 16) (p' : Fin 2 × Fin 16) (h : p ≠ p') : Disjoint (part p) (part p') := by
  refine Finset.disjoint_left.mpr fun j hj hj' => h ?_
  rw [mem_oSet, tile_coordsV] at hj hj'
  have h1 := p.1.isLt
  have h2 := p'.1.isLt
  refine Prod.ext (Fin.ext ?_) (Fin.ext ?_) <;> omega

theorem part_cover : (Finset.univ : Finset (Fin 2 × Fin 16)).biUnion part = Finset.univ := by
  refine Finset.eq_univ_of_forall fun j => Finset.mem_biUnion.mpr ?_
  have hj : (j 0).val < 98304 := (j 0).isLt
  refine ⟨(⟨(j 0).val / 3072 % 2, by omega⟩, ⟨(j 0).val / 3072 / 2, by omega⟩), Finset.mem_univ _, ?_⟩
  rw [mem_oSet, tile_coordsV]
  constructor <;> (show _ ; simp only []; omega)

/-- The share of the input a tile gets. -/
abbrev xq (c : Fin 2) (i : Fin 16) : PosShare TreeShare := leaf 4 (leaf 1 fullShare c) i

/-- What the tile at `c`, `i` works on. -/
abbrev goPts (d : Dev nD) (x : Buf (Elt F) (xLoc d)) (f : Buf (Elt F) (oLoc d)) (c : Fin 2) (i : Fin 16) : sProp 𝕄 :=
  iprop((xLoc d ↦{(xq c i).left} x) ∗ (xLoc d ↦{(xq c i).right} x) ∗ oLoc d ↦[part (c, i)]{fullShare} f)

omit [FloatOps F] [Named F] in
/-- All the tiles' parts of the output are the output. -/
theorem out_parts (d : Dev nD) (f : Buf (Elt F) (oLoc d)) :
    (oLoc d ↦{fullShare} f : sProp 𝕄) = bigSep Finset.univ fun c : Fin 2 => bigSep Finset.univ fun i : Fin 16 => oLoc d ↦[part (c, i)]{fullShare} f := by
  have h := pointsTo_biUnion (Ix := HIx 1) (Name := ℕ) (U := UU) (Lvl := ℕ) (Val := Elt F) (q := fullShare) (f := f) (ℓ := oLoc d) Finset.univ part (fun p _ p' _ hp => part_disjoint p p' hp)
  rw [part_cover] at h
  exact h.trans (bigSep_univ_prod _)

omit [FloatOps F] [Named F] in
/-- All the tiles' shares of the input are the input. -/
theorem in_shares (d : Dev nD) (x : Buf (Elt F) (xLoc d)) :
    (xLoc d ↦{fullShare} x : sProp 𝕄)
      = bigSep Finset.univ fun c : Fin 2 => bigSep Finset.univ fun i : Fin 16 => iprop((xLoc d ↦{(xq c i).left} x) ∗ (xLoc d ↦{(xq c i).right} x)) := by
  refine (pointsTo_leaves Finset.univ x 1 fullShare).trans (bigSep_congr fun c _ => ?_)
  refine (pointsTo_leaves Finset.univ x 4 _).trans (bigSep_congr fun i _ => ?_)
  exact BI.Entails.antisymm (pointsTo_share (PosShare.mem_left_op_right _)).1 (pointsTo_share (PosShare.mem_left_op_right _)).2

omit [FloatOps F] [Named F] in
/-- What all the tiles work on is the two arrays. -/
theorem all_pts (d : Dev nD) (x : Buf (Elt F) (xLoc d)) (f : Buf (Elt F) (oLoc d)) :
    (bigSep Finset.univ fun c : Fin 2 => bigSep Finset.univ fun i : Fin 16 => goPts d x f c i)
      = (iprop((xLoc d ↦{fullShare} x) ∗ oLoc d ↦{fullShare} f) : sProp 𝕄) := by
  rw [in_shares, out_parts, ← bigSep_sep']
  refine bigSep_congr fun c _ => ?_
  rw [← bigSep_sep']
  exact bigSep_congr fun i _ => BI.Entails.antisymm Idealize.SL.BI.sep_assoc' Idealize.SL.BI.sep_assoc

end Cert.Proof.KernelIdeal

end
-- ==== Proof.KernelIdeal.Launch.lean ====
/-
  The whole run: the argument reshaped to the flat input, the one call to the 32 tiles, the flat output reshaped to the
  result. It ends with the argument as it was and the result at `outArr` of it, every semaphore back at zero.
-/
module

public import proofs.«01_k».proof.Proof.KernelIdeal.Pieces

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within reshape_result reshape_result_ne)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## The values -/

/-- The argument's words in row-major order. -/
def flat (a : S1024000x32.Idx → F .f32) : S32768000.Idx → F .f32 := shapeCast S32768000 a shapeCasts_S1024000x32_S32768000

/-- The result: the means of all chunks, at the result's shape. -/
def outArr (a : S1024000x32.Idx → F .f32) : S512x192.Idx → F .f32 := shapeCast S512x192 (outFlat (flat a)) shapeCasts_S98304_S512x192

variable (m : (ℓ : Loc nD τ sig) → Buf (Elt F) ℓ) (ρ : Dev nD → PrngReg)

/-- The flat input and the flat output of device `d`'s run. -/
abbrev xVal (d : Dev nD) : Buf (Elt F) (xLoc d) := flat (m (aLoc d))
abbrev oVal (d : Dev nD) : Buf (Elt F) (oLoc d) := outFlat (xVal m d)

/-! ## What the handshakes carry -/

/-- The call takes the input and the output, already cut among the tiles; each tile takes its pieces, and brings them
    back with its part of the output written. -/
def P : (K (F := F)).Pay (nD := nD) (Val := Elt F) (Name := ℕ) (U := UU) where
  st := fun q d c => match q with
    | 0 => bigSep Finset.univ fun i : Fin 16 => goPts d (xVal m d) (m (oLoc d)) (Fin.cast nCore_zero c) i
  dn := fun q d c => match q with
    | 0 => bigSep Finset.univ fun i : Fin 16 => goPts d (xVal m d) (oVal m d) (Fin.cast nCore_zero c) i
  go := fun q d c i => match q with
    | 0 => goPts d (xVal m d) (m (oLoc d)) (Fin.cast nCore_zero c) (Fin.cast nSub_zero i)
  td := fun q d c i => match q with
    | 0 => goPts d (xVal m d) (oVal m d) (Fin.cast nCore_zero c) (Fin.cast nSub_zero i)
  x := fun _ _ => iprop(emp)

instance P_storable : (P m).IsStorable where
  st q d c := match q with
    | 0 => (inferInstance : BI.Storable (upEmb : UEmb _ 𝕄) (bigSep Finset.univ fun i : Fin 16 => goPts d (xVal m d) (m (oLoc d)) (Fin.cast nCore_zero c) i))
  dn q d c := match q with
    | 0 => (inferInstance : BI.Storable (upEmb : UEmb _ 𝕄) (bigSep Finset.univ fun i : Fin 16 => goPts d (xVal m d) (oVal m d) (Fin.cast nCore_zero c) i))
  go q d c i := match q with
    | 0 => (inferInstance : BI.Storable (upEmb : UEmb _ 𝕄) (goPts d (xVal m d) (m (oLoc d)) (Fin.cast nCore_zero c) (Fin.cast nSub_zero i)))
  td q d c i := match q with
    | 0 => (inferInstance : BI.Storable (upEmb : UEmb _ 𝕄) (goPts d (xVal m d) (oVal m d) (Fin.cast nCore_zero c) (Fin.cast nSub_zero i)))

/-! ## The obligation of a tile, and the split among them -/

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) bufA (Memref.isWhole_whole _) bufB (Memref.isWhole_whole _) bufO (Memref.isWhole_whole _)
          cc0_scratch3 cc0_scratch4 cc0_scoped0) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- A tile's run of the task, on what the call hands it. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (xq (Fin.cast nCore_zero c) (Fin.cast nSub_zero i)).left
    (xq (Fin.cast nCore_zero c) (Fin.cast nSub_zero i)).right (xVal m d) (m (oLoc d)) O W hO).trans (wp_mono frame _ _ fun _ => obl_post)

/-- A SparseCore's share of the call is its tiles' pieces. -/
theorem vecSplit : (K (F := F)).VecSplit' (P m) 0 := by
  intro d c
  show (bigSep Finset.univ fun i : Fin 16 => goPts d (xVal m d) (m (oLoc d)) (Fin.cast nCore_zero c) i) ⊢ |={Set.univ}=> iprop(
      (bigSep Finset.univ fun i : Fin 16 => goPts d (xVal m d) (m (oLoc d)) (Fin.cast nCore_zero c) i)
      ∗ ((bigSep Finset.univ fun i : Fin 16 => goPts d (xVal m d) (oVal m d) (Fin.cast nCore_zero c) i)
          -∗ (bigSep Finset.univ fun i : Fin 16 => goPts d (xVal m d) (oVal m d) (Fin.cast nCore_zero c) i)))
  iintro H; imodintro
  isplitl [H]; · iexact H
  iintro H; iexact H

/-! ## The launch element -/

def u₀ : UU := (initOf (K (F := F)).hsCells (K (F := F)).hsToks, 1)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes. -/
abbrev opIn : HloOp τ sig (Elt F) :=
  StableHlo.reshape main_arg0 main_v0 (rfl : (.f32 : EltTy) = .f32) shapeCasts_S1024000x32_S32768000
abbrev opOut : HloOp τ sig (Elt F) :=
  StableHlo.reshape main_v1 main_v2 (rfl : (.f32 : EltTy) = .f32) shapeCasts_S98304_S512x192

/-- The TensorCore's arrays: the argument, the flat input, the flat output, the result. -/
abbrev S4 : Finset (DevRef τ sig) := {a', x', o', r'}

omit [FloatOps F] [Named F] in
theorem held_S4 (d : Dev nD) (W : Valuation τ sig (Elt F)) :
    (held (T d) S4 W : sProp 𝕄)
      = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] [Named F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at the launch, and after the call. -/
def V0 (d : Dev nD) : Valuation τ sig (Elt F) := fun b => m (d, b)
def V1 (d : Dev nD) : Valuation τ sig (Elt F) := Function.update ((opIn (F := F)).result (V0 m d)) o' (oVal m d)

theorem unscoped_held (d : Dev nD) : (unscopedBufs d (fun b => m ((SparseCore.T d).loc b)) : sProp 𝕄) = held (T d) S4 (V0 m d) := by
  rw [unscopedBufs_eq, held_S4]; rfl

/-- After the first reshape: the flat input is the argument's words in order, the rest as at the launch. -/
theorem held_in (d : Dev nD) :
    (held (T d) S4 ((opIn (F := F)).result (V0 m d)) : sProp 𝕄)
      = iprop((aLoc d ↦{fullShare} m (aLoc d)) ∗ (xLoc d ↦{fullShare} xVal m d) ∗ (oLoc d ↦{fullShare} m (oLoc d)) ∗ rLoc d ↦{fullShare} m (rLoc d)) := by
  rw [held_S4,
    reshape_result_ne (τ := τ) (Val := Elt F) (x := main_arg0) (y := main_v0) (r := main_arg0) _ _ _ _ _ (by decide),
    reshape_result_ne (τ := τ) (Val := Elt F) (x := main_arg0) (y := main_v0) (r := main_v1) _ _ _ _ _ (by decide),
    reshape_result_ne (τ := τ) (Val := Elt F) (x := main_arg0) (y := main_v0) (r := main_v2) _ _ _ _ _ (by decide),
    reshape_result (τ := τ) (Val := Elt F) main_arg0 main_v0]
  rfl

/-- The arrays after the call. -/
theorem held_call (d : Dev nD) :
    (held (T d) S4 (V1 m d) : sProp 𝕄)
      = iprop((aLoc d ↦{fullShare} m (aLoc d)) ∗ (xLoc d ↦{fullShare} xVal m d) ∗ (oLoc d ↦{fullShare} oVal m d) ∗ rLoc d ↦{fullShare} m (rLoc d)) := by
  unfold V1
  rw [held_S4, Function.update_of_ne (show a' ≠ o' by decide), Function.update_of_ne (show x' ≠ o' by decide),
    Function.update_of_ne (show r' ≠ o' by decide), Function.update_self,
    reshape_result_ne (τ := τ) (Val := Elt F) (x := main_arg0) (y := main_v0) (r := main_arg0) _ _ _ _ _ (by decide),
    reshape_result_ne (τ := τ) (Val := Elt F) (x := main_arg0) (y := main_v0) (r := main_v2) _ _ _ _ _ (by decide),
    reshape_result (τ := τ) (Val := Elt F) main_arg0 main_v0]
  rfl

/-- After the second reshape the argument is as it was and the result is the means at its shape. -/
theorem held_out (d : Dev nD) :
    (held (T d) S4 ((opOut (F := F)).result (V1 m d)) : sProp 𝕄)
      = iprop((aLoc d ↦{fullShare} m (aLoc d)) ∗ (xLoc d ↦{fullShare} (opOut (F := F)).result (V1 m d) x')
          ∗ (oLoc d ↦{fullShare} (opOut (F := F)).result (V1 m d) o') ∗ rLoc d ↦{fullShare} outArr (m (aLoc d))) := by
  have ea : (opOut (F := F)).result (V1 m d) a' = m (aLoc d) := by
    rw [reshape_result_ne (τ := τ) (Val := Elt F) (x := main_v1) (y := main_v2) (r := main_arg0) _ _ _ _ _ (by decide)]
    unfold V1
    rw [Function.update_of_ne (show a' ≠ o' by decide),
      reshape_result_ne (τ := τ) (Val := Elt F) (x := main_arg0) (y := main_v0) (r := main_arg0) _ _ _ _ _ (by decide)]
    rfl
  have er : (opOut (F := F)).result (V1 m d) r' = outArr (m (aLoc d)) := by
    rw [reshape_result (τ := τ) (Val := Elt F) main_v1 main_v2]
    unfold V1
    rw [Function.update_self]
    rfl
  rw [held_S4, ea, er]

theorem st0_eq (d : Dev nD) : (bigSep Finset.univ fun c : Fin ((K (F := F)).nCore 0) => (P m).st 0 d c)
    = iprop((xLoc d ↦{fullShare} xVal m d) ∗ oLoc d ↦{fullShare} m (oLoc d)) :=
  all_pts d (xVal m d) (m (oLoc d))
theorem dn0_eq (d : Dev nD) : (bigSep Finset.univ fun c : Fin ((K (F := F)).nCore 0) => (P m).dn 0 d c)
    = iprop((xLoc d ↦{fullShare} xVal m d) ∗ oLoc d ↦{fullShare} oVal m d) :=
  all_pts d (xVal m d) (oVal m d)

theorem hIn : (opIn (F := F)).bufs ⊆ S4 := show ({a', x'} : Finset (DevRef τ sig)) ⊆ S4 by decide
theorem hOut : (opOut (F := F)).bufs ⊆ S4 := show ({o', r'} : Finset (DevRef τ sig)) ⊆ S4 by decide

/-- What @main leaves: the argument as it was, the result written. -/
abbrev FIN (d : Dev nD) : sProp 𝕄 := iprop((aLoc d ↦{fullShare} m (aLoc d)) ∗ rLoc d ↦{fullShare} outArr (m (aLoc d)))

/-- @main: the first reshape, the call from the flat input and the flat output, the second reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  ihave Hh := (Entails.of_eq (held_in m d)) $$ Hheld
  icases Hh with ⟨Ha, Hx, Ho, Hr⟩
  rw [wp_ret]; imodintro
  iapply ((K (F := F)).wp_run (D (F := F)) 𝒱 (EH := EH) (P := P m) κ d 0) $$ [Hst Ha Hx Ho Hr Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S4) hOut (V := V1 m d)) $$ [Hb Ha Hx Ho Hr]
  · isplitl [Hb]; · iexact Hb
    rw [held_call]
    isplitl [Ha]; · iexact Ha
    isplitl [Hx]; · iexact Hx
    isplitl [Ho]; · iexact Ho
    iexact Hr
  iintro ⟨Hb, Hheld⟩
  ihave Hh := (Entails.of_eq (held_out m d)) $$ Hheld
  icases Hh with ⟨Ha, -, -, Hr⟩
  rw [wp_ret]; imodintro; imodintro
  isplitl [Hst]; · iexact Hst
  isplitl [Ha Hr]
  · isplitl [Ha]; · iexact Ha
    iexact Hr
  isplitl [Hb] <;> iassumption

def fq (d : Dev nD) (s' : Phys nD τ sig (Elt F)) : Prop := s'.mem.mem (aLoc d) = m (aLoc d) ∧ s'.mem.mem (rLoc d) = outArr (m (aLoc d))

set_option maxRecDepth 16384 in
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := outArr (m (aLoc d)))) $$ [HSI Hr]
  · isplitl [HSI] <;> iassumption
  icases H with %h2
  ipureintro; exact ⟨funext fun i => h1 i (Finset.mem_univ i), funext fun i => h2 i (Finset.mem_univ i)⟩

/-! ## The run -/

def QC : PUnit × MemSt nD τ sig (Elt F) → Prop := fun r =>
  (∀ c : Dev nD, r.2.mem (aLoc c) = m (aLoc c) ∧ r.2.mem (rLoc c) = outArr (m (aLoc c))) ∧ r.2.sem = fun _ => 0

/-- Every fair run ends, with the argument unchanged, the result at `outArr` of it and the semaphores at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Reference.Segments.lean ====
/-
  The segment of a row, as the reference computes it: rows are numbered 0 to 1023999, a chunk is 1000 consecutive rows,
  and row `n` goes to segment `3 * (n / 1000) + n % 1000 % 3`. So a segment is the rows of one chunk whose number in the
  chunk has one residue modulo 3: 334 rows for residue 0, 333 for residues 1 and 2.
-/
module

public import proofs.«01_k».proof.Defs
public import proofs.«01_k».proof.Proof.Gen.ReferenceIdeal
public import Idealize.ShloMosaic.Lib.Routing.Words
public import Idealize.ShloMosaic.Lib.Routing.OpsPair

@[expose] public section

noncomputable section

open scoped BigOperators

namespace Cert.Proof.Reference

open Cert.ReferenceIdeal Cert.ReferenceIdeal.Gen
open Idealize.ShloMosaic Idealize.ShloMosaic.ValueIdx

/-- The segment of row `n`. -/
def seg (n : ℕ) : ℕ := 3 * (n / 1000) + n % 1000 % 3

/-- How many rows a segment has. -/
def cnt (s : ℕ) : ℕ := if s % 3 = 0 then 334 else 333

/-- The rows of segment `s`, in order. -/
def row (s k : ℕ) : ℕ := 1000 * (s / 3) + s % 3 + 3 * k

theorem row_lt {s k : ℕ} (hs : s < 3072) (hk : k < cnt s) : row s k < 1024000 := by
  unfold cnt at hk; unfold row
  split at hk <;> omega

theorem seg_row {s k : ℕ} (hk : k < cnt s) : seg (row s k) = s := by
  have hp : s % 3 + 3 * k < 1000 := by
    unfold cnt at hk
    split at hk <;> omega
  have hd : (1000 * (s / 3) + s % 3 + 3 * k) / 1000 = s / 3 := by omega
  have hm : (1000 * (s / 3) + s % 3 + 3 * k) % 1000 = s % 3 + 3 * k := by omega
  unfold seg row
  rw [hd, hm]
  omega

theorem row_of_seg {n s : ℕ} (h : seg n = s) : (n % 1000) / 3 < cnt s ∧ row s ((n % 1000) / 3) = n := by
  subst h
  unfold cnt seg row
  constructor
  · split <;> omega
  · omega

/-- A sum over the rows of a segment, in order. -/
theorem sum_seg {M : Type*} [AddCommMonoid M] (s : ℕ) (hs : s < 3072) (f : ℕ → M) :
    ∑ i ∈ (Finset.univ : Finset (Fin 1024000)).filter (fun i => seg i.val = s), f i.val = ∑ k ∈ Finset.range (cnt s), f (row s k) := by
  refine Finset.sum_bij' (fun i _ => i.val % 1000 / 3) (fun k hk => ⟨row s k, row_lt hs (Finset.mem_range.mp hk)⟩) ?_ ?_ ?_ ?_ ?_
  · exact fun i hi => Finset.mem_range.mpr (row_of_seg (Finset.mem_filter.mp hi).2).1
  · exact fun k hk => Finset.mem_filter.mpr ⟨Finset.mem_univ _, seg_row (Finset.mem_range.mp hk)⟩
  · exact fun i hi => Fin.ext (row_of_seg (Finset.mem_filter.mp hi).2).2
  · intro k hk
    have hk' := Finset.mem_range.mp hk
    show row s k % 1000 / 3 = k
    unfold cnt at hk'; unfold row
    split at hk' <;> omega
  · intro i hi
    show f i.val = f (row s (i.val % 1000 / 3))
    rw [(row_of_seg (Finset.mem_filter.mp hi).2).2]

/-! ## The words -/

/-- One 32-bit word at every row. -/
abbrev splat (w : BitVec 32) : IVec S1024000 32 := broadcastInDim S1024000 ![] bcast_S_S1024000 (constantI S_ 32 w)

/-- A row's number, the block of two chunks it is in, its place in the block, as the reference's words. -/
abbrev rowNo : IVec S1024000 32 := iotaInDim S1024000 32 0
abbrev blockNo : IVec S1024000 32 := Host.divsi rowNo (splat 2000#32)
abbrev place : IVec S1024000 32 := Host.remsi rowNo (splat 2000#32)

/-- The segment words. -/
def segs : IVec S1024000 32 :=
  addi (muli blockNo (splat 6#32))
    (select (cmpi .slt place (splat 1000#32)) (Host.remsi place (splat 3#32))
      (addi (splat 3#32) (Host.remsi (subi place (splat 1000#32)) (splat 3#32))))

/-- Whether a row counts: its segment word is not negative. -/
def counted : IVec S1024000 1 := cmpi .sge segs (splat 0#32)

/-- Where a row is added: its segment, or past the last one. -/
def dest : IVec S1024000 32 := select counted segs (broadcastInDim S1024000 ![] bcast_S_S1024000 (id (constantI S_ 32 3072#32)))

theorem segs_at (i : S1024000.Idx) : segs i = BitVec.ofNat 32 (seg (i 0).val) := by
  have hi : (i 0).val < 1024000 := (i 0).isLt
  generalize hn : (i 0).val = n at hi
  have e0 : rowNo i = BitVec.ofNat 32 n := by rw [← hn]; rfl
  have ed : blockNo i = BitVec.ofNat 32 (n / 2000) := by
    show IntOp.divsi .host (rowNo i) 2000#32 = _
    rw [e0]
    exact Routing.divsi_word .host (a := n) (b := 2000) (by omega) (by decide) (by decide)
  have er : place i = BitVec.ofNat 32 (n % 2000) := by
    show IntOp.remsi .host (rowNo i) 2000#32 = _
    rw [e0]
    exact Routing.remsi_word .host (a := n) (b := 2000) (by omega) (by decide) (by decide)
  show IntOp.addi (IntOp.muli (blockNo i) 6#32)
    (Scalar.select (IntOp.cmpi .slt (place i) 1000#32) (IntOp.remsi .host (place i) 3#32)
      (IntOp.addi 3#32 (IntOp.remsi .host (place i - 1000#32) 3#32))) = _
  rw [ed, er]
  by_cases h : n % 2000 < 1000
  · rw [WordCmp.select_of_eq_one ((WordCmp.cmpi_slt_ofNat_eq_one_iff (w := 32) (a := n % 2000) (b := 1000) (by omega) (by decide)).mpr h),
      show IntOp.remsi .host (BitVec.ofNat 32 (n % 2000)) 3#32 = BitVec.ofNat 32 (n % 2000 % 3) from
        Routing.remsi_word .host (a := n % 2000) (b := 3) (by omega) (by decide) (by decide),
      show IntOp.muli (BitVec.ofNat 32 (n / 2000)) 6#32 = BitVec.ofNat 32 (n / 2000 * 6) from WordCmp.muli_ofNat _ _,
      WordCmp.addi_ofNat]
    congr 1
    unfold seg; omega
  · rw [WordCmp.select_of_eq_zero ((WordCmp.cmpi_slt_ofNat_eq_zero_iff (w := 32) (a := n % 2000) (b := 1000) (by omega) (by decide)).mpr h),
      show BitVec.ofNat 32 (n % 2000) - 1000#32 = BitVec.ofNat 32 (n % 2000 - 1000) from by
        apply BitVec.eq_of_toNat_eq
        simp only [BitVec.toNat_sub, BitVec.toNat_ofNat]
        omega,
      show IntOp.remsi .host (BitVec.ofNat 32 (n % 2000 - 1000)) 3#32 = BitVec.ofNat 32 ((n % 2000 - 1000) % 3) from
        Routing.remsi_word .host (a := n % 2000 - 1000) (b := 3) (by omega) (by decide) (by decide),
      show IntOp.muli (BitVec.ofNat 32 (n / 2000)) 6#32 = BitVec.ofNat 32 (n / 2000 * 6) from WordCmp.muli_ofNat _ _,
      show IntOp.addi 3#32 (BitVec.ofNat 32 ((n % 2000 - 1000) % 3)) = BitVec.ofNat 32 (3 + (n % 2000 - 1000) % 3) from WordCmp.addi_ofNat _ _,
      WordCmp.addi_ofNat]
    congr 1
    unfold seg; omega

theorem seg_lt {n : ℕ} (hn : n < 1024000) : seg n < 3072 := by unfold seg; omega

/-- Every row counts. -/
theorem counted_at (i : S1024000.Idx) : counted i = 1#1 := by
  have hi : (i 0).val < 1024000 := (i 0).isLt
  show IntOp.cmpi .sge (segs i) 0#32 = 1#1
  rw [segs_at]
  exact (WordCmp.cmpi_sge_ofNat_eq_one_iff (w := 32) (a := seg (i 0).val) (b := 0) (by have := seg_lt hi; omega) (by decide)).mpr (Nat.zero_le _)

/-- So a row is added at its segment. -/
theorem dest_at (i : S1024000.Idx) : dest i = BitVec.ofNat 32 (seg (i 0).val) := by
  show Scalar.select (counted i) (segs i) _ = _
  rw [counted_at, WordCmp.select_one, segs_at]

theorem dest_toInt (i : S1024000.Idx) : (dest i).toInt = (seg (i 0).val : ℤ) := by
  have := seg_lt (show (i 0).val < 1024000 from (i 0).isLt)
  rw [dest_at, WordCmp.toInt_eq_toNat_of_lt_half (by simp only [BitVec.toNat_ofNat]; omega)]
  simp only [BitVec.toNat_ofNat]
  omega

end Cert.Proof.Reference

end
-- ==== Proof.Reference.Landing.lean ====
/-
  Where the reference's two scatter-adds put each update. Update row `i` carries one index word; the row of sums (and the
  count) it is added to is that word, read signed. So one element of the result is the operand's element and the sum of
  the updates whose word is its row.
-/
module

public import proofs.«01_k».proof.Proof.Reference.Segments

@[expose] public section

noncomputable section

open scoped BigOperators

namespace Cert.Proof.Reference

open Cert.ReferenceIdeal Cert.ReferenceIdeal.Gen
open Idealize.ShloMosaic Idealize.ShloMosaic.ValueIdx Idealize.ShloMosaic.Routing

/-- The scatter of the rows. -/
abbrev dSum : ScatterDims S3073x32 S1024000x1 S1024000x32 := scatter_S3073x32_S1024000x1_S1024000x32_1_0_0_1
/-- The scatter of the counts. -/
abbrev dCnt : ScatterDims S3073 S1024000x1 S1024000 := scatter_S3073_S1024000x1_S1024000_n_0_0_1

theorem sum_siIdx (i : Fin 1024000) (l : Fin 32) (c) : dSum.siIdx (ix2 i l) c = ix2 i 0 := by
  funext b
  match b with
  | ⟨0, _⟩ => rfl
  | ⟨1, h⟩ => exact Fin.ext (by
      have : ((dSum.siIdx (ix2 i l) c) ⟨1, h⟩).val < 1 := ((dSum.siIdx (ix2 i l) c) ⟨1, h⟩).isLt
      show ((dSum.siIdx (ix2 i l) c) ⟨1, h⟩).val = 0
      omega)

theorem cnt_siIdx (i : Fin 1024000) (c) : dCnt.siIdx (ix1 i) c = ix2 i 0 := by
  funext b
  match b with
  | ⟨0, _⟩ => rfl
  | ⟨1, h⟩ => exact Fin.ext (by
      have : ((dCnt.siIdx (ix1 i) c) ⟨1, h⟩).val < 1 := ((dCnt.siIdx (ix1 i) c) ⟨1, h⟩).isLt
      show ((dCnt.siIdx (ix1 i) c) ⟨1, h⟩).val = 0
      omega)

/-- Element `(i, l)` of the rows is added to `(s, l')` exactly when row `i`'s word is `s` and `l` is `l'`. -/
theorem sum_lands (idx : IVec S1024000x1 32) (i : Fin 1024000) (l : Fin 32) (s : Fin 3073) (l' : Fin 32) :
    dSum.resultIdx? (ix2 i l) idx = some (ix2 s l') ↔ (idx (ix2 i 0)).toInt = s.val ∧ l = l' := by
  have h0 : dSum.start (ix2 i l) idx 0 = (idx (ix2 i 0)).toInt := by
    unfold ScatterDims.start
    rw [dif_pos (by decide), sum_siIdx]
  have h1 : dSum.start (ix2 i l) idx 1 = 0 := by
    unfold ScatterDims.start
    rw [dif_neg (by decide)]
  have w0 : dSum.window (ix2 i l) 0 = 0 := rfl
  have w1 : dSum.window (ix2 i l) 1 = l.val := rfl
  refine (resultIdx?_ix2 dSum (ix2 i l) idx s l').trans ?_
  rw [h0, h1, w0, w1, Fin.ext_iff]
  omega

/-- The count of row `i` is added to `s` exactly when row `i`'s word is `s`. -/
theorem cnt_lands (idx : IVec S1024000x1 32) (i : Fin 1024000) (s : Fin 3073) :
    dCnt.resultIdx? (ix1 i) idx = some (ix1 s) ↔ (idx (ix2 i 0)).toInt = s.val := by
  have h0 : dCnt.start (ix1 i) idx 0 = (idx (ix2 i 0)).toInt := by
    unfold ScatterDims.start
    rw [dif_pos (by decide), cnt_siIdx]
  have w0 : dCnt.window (ix1 i) 0 = 0 := rfl
  refine (resultIdx?_ix1 dCnt (ix1 i) idx s).trans ?_
  rw [h0, w0]
  omega

/-- The index words as the scatters take them. -/
def words : IVec S1024000x1 32 := broadcastInDim S1024000x1 ![0] bcast_S1024000_S1024000x1_0 dest

theorem words_toInt (i : Fin 1024000) : (words (ix2 i 0)).toInt = (seg i.val : ℤ) :=
  dest_toInt _

/-- An element of the scattered rows: the sum of its segment's elements, in order. -/
theorem sum_at (x : S3073x32.Idx → EReal) (u : S1024000x32.Idx → EReal) (f : ℕ → EReal) (s : Fin 3073) (hs : s.val < 3072) (l : Fin 32)
    (hf : ∀ i : Fin 1024000, u (ix2 i l) = f i.val) :
    Ideal.hostScatterAdd dSum x words u (ix2 s l) = x (ix2 s l) + ∑ k ∈ Finset.range (cnt s.val), f (row s.val k) := by
  unfold Ideal.hostScatterAdd
  rw [← sum_seg s.val hs f]
  refine congrArg (x (ix2 s l) + ·) ?_
  refine Finset.sum_bij' (fun j _ => j 0) (fun i _ => ix2 i l) ?_ ?_ ?_ ?_ ?_
  · intro j hj
    obtain ⟨i, q, rfl⟩ : ∃ i q, j = ix2 i q := ⟨_, _, eq_ix2 j⟩
    have h := ((sum_lands _ _ _ _ _).mp (Finset.mem_filter.mp hj).2).1
    rw [words_toInt] at h
    exact Finset.mem_filter.mpr ⟨Finset.mem_univ _, by exact_mod_cast h⟩
  · intro i hi
    have h := (Finset.mem_filter.mp hi).2
    exact Finset.mem_filter.mpr ⟨Finset.mem_univ _, (sum_lands _ _ _ _ _).mpr ⟨by rw [words_toInt, h], rfl⟩⟩
  · intro j hj
    obtain ⟨i, q, rfl⟩ : ∃ i q, j = ix2 i q := ⟨_, _, eq_ix2 j⟩
    have h := ((sum_lands _ _ _ _ _).mp (Finset.mem_filter.mp hj).2).2
    rw [h]
  · exact fun i _ => rfl
  · intro j hj
    obtain ⟨i, q, rfl⟩ : ∃ i q, j = ix2 i q := ⟨_, _, eq_ix2 j⟩
    have h := ((sum_lands _ _ _ _ _).mp (Finset.mem_filter.mp hj).2).2
    rw [h]
    exact hf i

/-- An element of the scattered counts. -/
theorem cnt_at (x : S3073.Idx → EReal) (u : S1024000.Idx → EReal) (v : EReal) (s : Fin 3073) (hs : s.val < 3072) (hu : ∀ i, u i = v) :
    Ideal.hostScatterAdd dCnt x words u (ix1 s) = x (ix1 s) + ∑ _k ∈ Finset.range (cnt s.val), v := by
  unfold Ideal.hostScatterAdd
  rw [← sum_seg s.val hs fun _ => v]
  refine congrArg (x (ix1 s) + ·) ?_
  refine Finset.sum_bij' (fun j _ => j 0) (fun i _ => ix1 i) ?_ ?_ ?_ ?_ ?_
  · intro j hj
    obtain ⟨i, rfl⟩ : ∃ i, j = ix1 i := ⟨_, eq_ix1 j⟩
    have h := (cnt_lands _ _ _).mp (Finset.mem_filter.mp hj).2
    rw [words_toInt] at h
    exact Finset.mem_filter.mpr ⟨Finset.mem_univ _, by exact_mod_cast h⟩
  · intro i hi
    have h := (Finset.mem_filter.mp hi).2
    exact Finset.mem_filter.mpr ⟨Finset.mem_univ _, (cnt_lands _ _ _).mpr (by rw [words_toInt, h])⟩
  · exact fun j _ => (eq_ix1 j).symm
  · exact fun i _ => rfl
  · exact fun j _ => hu j

end Cert.Proof.Reference

end
-- ==== Proof.Reference.Value.lean ====
/-
  What the reference computes, element by element. Its stages in order: the rows (all of them count), their sums by
  segment, the counts by segment, the means, the means at the result's shape. Over the extended reals a sum is the sum of
  its segment's rows in order, a count is 334 or 333, and a mean is the sum times the count's reciprocal.
-/
module

public import proofs.«01_k».proof.Proof.Reference.Landing
public import proofs.«01_k».proof.Proof.Gen.ReferenceIdeal.Run
public import Idealize.ShloMosaic.Lib.Pipeline.Value

@[expose] public section

noncomputable section

open scoped BigOperators

namespace Cert.Proof.Reference

open Cert.ReferenceIdeal Cert.ReferenceIdeal.Gen
open Idealize.ShloMosaic Idealize.ShloMosaic.ValueIdx

section Stages

variable {F : FTy → Type} [FloatOps F]

/-- The rows that are summed: the argument's, zero where a row does not count. -/
def rows (a : FVec F S1024000x32 .f32) : FVec F S1024000x32 .f32 :=
  select (broadcastInDim S1024000x32 ![0, 1] bcast_S1024000x1_S1024000x32_0_1 (broadcastInDim S1024000x1 ![0] bcast_S1024000_S1024000x1_0 counted))
    a (broadcastInDim S1024000x32 ![] bcast_S_S1024000x32 (constant S_ .f32 0x00000000#32))

/-- The sums by segment. -/
def sums (a : FVec F S1024000x32 .f32) : FVec F S3072x32 .f32 :=
  extractStridedSlice S3072x32 ![0, 0]
    (Host.scatterAdd dSum (broadcastInDim S3073x32 ![] bcast_S_S3073x32 (constant S_ .f32 0x00000000#32)) words (rows a)) slices_S3073x32_S3072x32_0_0

/-- The counts by segment. -/
def counts : FVec F S3072 .f32 :=
  extractStridedSlice S3072 ![0]
    (Host.scatterAdd dCnt (broadcastInDim S3073 ![] bcast_S_S3073 (constant S_ .f32 0x00000000#32)) words (uitofp .f32 counted)) slices_S3073_S3072_0

/-- The means by segment: zero where a segment is empty. -/
def means (a : FVec F S1024000x32 .f32) : FVec F S3072x32 .f32 :=
  select
    (broadcastInDim S3072x32 ![0, 1] bcast_S3072x1_S3072x32_0_1
      (cmpf .ogt (broadcastInDim S3072x1 ![0] bcast_S3072_S3072x1_0 (counts (F := F)) : FVec F S3072x1 .f32)
        (broadcastInDim S3072x1 ![] bcast_S_S3072x1 (constant S_ .f32 0x00000000#32))))
    (Host.divf (sums a)
      (broadcastInDim S3072x32 ![0, 1] bcast_S3072x1_S3072x32_0_1
        (broadcastInDim S3072x1 ![0] bcast_S3072_S3072x1_0
          (maximumf (counts (F := F)) (broadcastInDim S3072 ![] bcast_S_S3072 (constant S_ .f32 0x3F800000#32))))))
    (broadcastInDim S3072x32 ![] bcast_S_S3072x32 (constant S_ .f32 0x00000000#32))

/-- The reference's result. -/
def result (a : FVec F S1024000x32 .f32) : FVec F S512x192 .f32 := shapeCast S512x192 (means a) shapeCasts_S3072x32_S512x192

/-- The reference's result is these stages of its argument. -/
theorem result_eq (m : (ℓ : Loc nD τ sig) → Buf (Elt F) ℓ) (c : Dev nD) :
    Cert.ReferenceIdeal.Value.res_main_v44 m c = result (F := F) (m ((c.tc : Thread nD τ).loc main_arg0)) := rfl

end Stages

/-! ## The broadcasts, read at an index -/

/-- A broadcast of one value is that value. -/
theorem bcast_const {s t : Shape} {α : Type} {dims : Fin s.rank → Fin t.rank} (h : s.BroadcastsInDim t dims) {x : s.Idx → α} {v : α}
    (hx : ∀ i, x i = v) (j : t.Idx) : broadcastInDim t dims h x j = v := hx _

/-- A column of one value per segment, repeated over the lanes. -/
theorem bcast_lanes {α : Type} (x : S3072.Idx → α) (s : Fin 3072) (l : Fin 32) :
    broadcastInDim S3072x32 ![0, 1] bcast_S3072x1_S3072x32_0_1 (broadcastInDim S3072x1 ![0] bcast_S3072_S3072x1_0 x) (ix2 s l) = x (ix1 s) :=
  congrArg x (funext fun b => Fin.ext (by
    obtain rfl : b = 0 := Subsingleton.elim _ _
    rfl))

/-- A value per segment in a column, repeated over the lanes. -/
theorem bcast_column {α : Type} (x : S3072x1.Idx → α) (s : Fin 3072) (l : Fin 32) :
    broadcastInDim S3072x32 ![0, 1] bcast_S3072x1_S3072x32_0_1 x (ix2 s l) = x (ix2 s 0) :=
  congrArg x (funext fun b => Fin.ext (by
    match b with
    | ⟨0, _⟩ => rfl
    | ⟨1, _⟩ => rfl))

theorem bcast_unit {α : Type} (x : S3072.Idx → α) (s : Fin 3072) :
    broadcastInDim S3072x1 ![0] bcast_S3072_S3072x1_0 x (ix2 s 0) = x (ix1 s) :=
  congrArg x (funext fun b => Fin.ext (by
    obtain rfl : b = 0 := Subsingleton.elim _ _
    rfl))

/-- Every row counts, so the rows summed are the argument's. -/
theorem rows_eq {F : FTy → Type} [FloatOps F] (a : FVec F S1024000x32 .f32) : rows a = a := by
  funext j
  unfold rows select
  beta_reduce
  rw [bcast_const _ (bcast_const _ counted_at), WordCmp.select_one]

/-! ## Over the extended reals -/

/-- The word of all zeros is zero, and the word of one is one. -/
theorem ofBits_zero : Ideal.ofBits .f32 0x00000000#32 = 0 := by
  simp [Ideal.ofBits, Ideal.ieee, -EReal.coe_mul]

theorem ofBits_one : Ideal.ofBits .f32 0x3F800000#32 = ((1 : ℝ) : EReal) := by
  simp [Ideal.ofBits, Ideal.ieee, -EReal.coe_mul]; norm_num

/-- Row `n` of lane `l` of an array of rows. -/
def at_ (a : S1024000x32.Idx → EReal) (l : Fin 32) (n : ℕ) : EReal := a (ix2 ⟨n % 1024000, Nat.mod_lt _ (by decide)⟩ l)

theorem constant_at (w : BitVec 32) (i : S_.Idx) : constant (F := Ideal) S_ .f32 w i = Ideal.ofBits .f32 w := rfl
theorem cmpf_at {s : Shape} (x y : FVec Ideal s .f32) (i : s.Idx) : cmpf .ogt x y i = Ideal.cmp .ogt (x i) (y i) := rfl
theorem divf_at {s : Shape} (x y : FVec Ideal s .f32) (i : s.Idx) : Host.divf x y i = Ideal.div (x i) (y i) := rfl
theorem maximumf_at {s : Shape} (x y : FVec Ideal s .f32) (i : s.Idx) : maximumf x y i = max (x i) (y i) := rfl

theorem scatter_at {s si u : Shape} (d : ScatterDims s si u) (x : FVec Ideal s .f32) (idx : IVec si 32) (v : FVec Ideal u .f32) :
    Host.scatterAdd d x idx v = Ideal.hostScatterAdd d x idx v := rfl

theorem uitofp_at {s : Shape} (x : IVec s 1) (i : s.Idx) (hx : x i = 1#1) : uitofp (F := Ideal) .f32 x i = ((1 : ℝ) : EReal) := by
  show (((x i).toNat : ℝ) : EReal) = _
  rw [hx]
  simp

/-- The first 3072 segments of an array of 3073. -/
theorem slice_rows {α : Type} (x : S3073x32.Idx → α) (s : Fin 3072) (l : Fin 32) :
    extractStridedSlice S3072x32 ![0, 0] x slices_S3073x32_S3072x32_0_0 (ix2 s l) = x (ix2 ⟨s.val, by have := s.isLt; omega⟩ l) :=
  congrArg x (funext fun b => Fin.ext (by
    match b with
    | ⟨0, _⟩ => exact Nat.zero_add _
    | ⟨1, _⟩ => exact Nat.zero_add _))

theorem slice_counts {α : Type} (x : S3073.Idx → α) (s : Fin 3072) :
    extractStridedSlice S3072 ![0] x slices_S3073_S3072_0 (ix1 s) = x (ix1 ⟨s.val, by have := s.isLt; omega⟩) :=
  congrArg x (funext fun b => Fin.ext (by
    match b with
    | ⟨0, _⟩ => exact Nat.zero_add _))

theorem sums_at (a : S1024000x32.Idx → EReal) (s : Fin 3072) (l : Fin 32) :
    sums (F := Ideal) a (ix2 s l) = ∑ k ∈ Finset.range (cnt s.val), at_ a l (row s.val k) := by
  have hu : ∀ i : Fin 1024000, a (ix2 i l) = at_ a l i.val := fun i =>
    congrArg (fun n => a (ix2 n l)) (Fin.ext (Nat.mod_eq_of_lt i.isLt).symm)
  unfold sums
  rw [slice_rows, scatter_at, rows_eq, sum_at _ _ _ _ s.isLt l hu, bcast_const _ (fun _ => constant_at _ _), ofBits_zero, zero_add]

theorem sum_one (n : ℕ) : ∑ _k ∈ Finset.range n, ((1 : ℝ) : EReal) = ((n : ℝ) : EReal) := by
  induction n with
  | zero => simp
  | succ n ih => rw [Finset.sum_range_succ, ih, ← EReal.coe_add, Nat.cast_succ]

theorem counts_at (s : Fin 3072) : counts (F := Ideal) (ix1 s) = ((cnt s.val : ℝ) : EReal) := by
  unfold counts
  rw [slice_counts, scatter_at, cnt_at _ _ _ _ s.isLt (fun i => uitofp_at _ i (counted_at i)), bcast_const _ (fun _ => constant_at _ _), ofBits_zero,
    zero_add, sum_one]

theorem cnt_pos (s : ℕ) : 1 ≤ cnt s := by unfold cnt; split <;> omega

/-- A mean: the sum of its segment's rows, times the reciprocal of how many there are. -/
theorem means_at (a : S1024000x32.Idx → EReal) (s : Fin 3072) (l : Fin 32) :
    means (F := Ideal) a (ix2 s l)
      = (∑ k ∈ Finset.range (cnt s.val), at_ a l (row s.val k)) * ((1 / (cnt s.val : ℝ) : ℝ) : EReal) := by
  have h1 : (1 : ℝ) ≤ (cnt s.val : ℝ) := by exact_mod_cast cnt_pos s.val
  unfold means select
  beta_reduce
  rw [bcast_column, cmpf_at, bcast_unit, counts_at, divf_at, sums_at, bcast_lanes, maximumf_at, counts_at,
    bcast_const _ (fun _ => constant_at _ _), bcast_const _ (fun _ => constant_at _ _), ofBits_zero, ofBits_one,
    max_eq_left (EReal.coe_le_coe_iff.mpr h1), Ideal.div_coe (by linarith)]
  refine WordCmp.select_of_eq_one ?_ _ _
  unfold Ideal.cmp
  have h0 : (0 : EReal) < ((cnt s.val : ℝ) : EReal) := by exact_mod_cast (by linarith : (0 : ℝ) < (cnt s.val : ℝ))
  show BitVec.ofBool (decide _) = 1#1
  rw [decide_eq_true h0]
  rfl

end Cert.Proof.Reference

end
-- ==== Proof.Reference.Equation.lean ====
/-
  The equation: over the extended reals the kernel's result is the reference's. Word `n` of either result, in row-major
  order, belongs to segment `n / 32` and lane `n % 32`. The kernel adds the segment's rows in order and multiplies by the
  named constant 1/334 or 1/333; the reference sums the same rows and divides by their number.
-/
module

public import proofs.«01_k».proof.Proof.Reference.Value
public import proofs.«01_k».proof.Proof.KernelIdeal.Launch

@[expose] public section

noncomputable section

open scoped BigOperators

namespace Cert.Proof.Reference

open Cert.ReferenceIdeal Cert.ReferenceIdeal.Gen
open Idealize.ShloMosaic Idealize.ShloMosaic.ValueIdx
open Cert.KernelIdeal (S32000 S32768000)
open Cert.Proof.KernelIdeal (word colSum mean chunk outWord flat outArr outFlat r0 r1)

/-- The kernel's two factors. -/
theorem r0_eq : (r0 : Ideal .f32) = ((1 / 334 : ℝ) : EReal) := IdealRules.named_const.ideal_named_scalar _ _ _ _ rfl
theorem r1_eq : (r1 : Ideal .f32) = ((1 / 333 : ℝ) : EReal) := IdealRules.named_const.ideal_named_scalar _ _ _ _ rfl

/-- A column's running sum is a sum. -/
theorem colSum_eq (c : S32000.Idx → EReal) (o n : ℕ) : colSum (F := Ideal) c o n = ∑ k ∈ Finset.range n, word (F := Ideal) c (o + 96 * k) := by
  induction n with
  | zero => exact ofBits_zero
  | succ n ih =>
    rw [Finset.sum_range_succ, ← ih]
    rfl

/-- A word of the flat input. -/
theorem flat_at (a : S1024000x32.Idx → EReal) (i : Fin 1024000) (l : Fin 32) (j : S32768000.Idx) (hj : (j 0).val = i.val * 32 + l.val) :
    flat (F := Ideal) a j = a (ix2 i l) := by
  refine shapeCast_apply a _ j (ix2 i l) ?_
  rw [Shape.rowMajor_val_one, Shape.rowMajor_val_two, hj]
  rfl

/-- The word the kernel adds for row `k` of segment `s` is that row's. -/
theorem word_eq (a : S1024000x32.Idx → EReal) (s k : ℕ) (l : Fin 32) (hs : s < 3072) (hk : k < cnt s) :
    word (F := Ideal) (chunk (F := Ideal) (flat (F := Ideal) a) (s / 3)) (32 * (s % 3) + l.val + 96 * k) = at_ a l (row s k) := by
  have hl := l.isLt
  have hk' : s % 3 + 3 * k < 1000 := by
    unfold cnt at hk
    split at hk <;> omega
  have hr := row_lt hs hk
  refine flat_at a _ l _ ?_
  show (32000 * (s / 3) + (32 * (s % 3) + l.val + 96 * k) % 32000) % 32768000 = row s k % 1024000 * 32 + l.val
  rw [Nat.mod_eq_of_lt hr, Nat.mod_eq_of_lt (show 32 * (s % 3) + l.val + 96 * k < 32000 by omega)]
  unfold row at hr ⊢
  omega

/-- A word of the kernel's flat output is the segment's mean. -/
theorem outWord_eq (a : S1024000x32.Idx → EReal) (s : Fin 3072) (l : Fin 32) :
    outWord (F := Ideal) (flat (F := Ideal) a) (s.val * 32 + l.val) = means (F := Ideal) a (ix2 s l) := by
  have hl := l.isLt
  rw [means_at]
  unfold outWord mean
  rw [show (s.val * 32 + l.val) / 96 = s.val / 3 by omega, show (s.val * 32 + l.val) % 96 = 32 * (s.val % 3) + l.val by omega]
  have hsum : ∀ n, n = cnt s.val → colSum (F := Ideal) (chunk (F := Ideal) (flat (F := Ideal) a) (s.val / 3)) (32 * (s.val % 3) + l.val) n
      = ∑ k ∈ Finset.range (cnt s.val), at_ a l (row s.val k) := by
    rintro n rfl
    rw [colSum_eq]
    exact Finset.sum_congr rfl fun k hk => word_eq a s.val k l s.isLt (Finset.mem_range.mp hk)
  by_cases h : s.val % 3 = 0
  · have hc : cnt s.val = 334 := if_pos h
    rw [if_pos (by omega), hsum 334 hc.symm, r0_eq, hc]
    rfl
  · have hc : cnt s.val = 333 := if_neg h
    rw [if_neg (by omega), hsum 333 hc.symm, r1_eq, hc]
    rfl

/-- The kernel's result is the reference's. -/
theorem outArr_eq (a : S1024000x32.Idx → EReal) : outArr (F := Ideal) a = result (F := Ideal) a := by
  funext j
  obtain ⟨q, c, rfl⟩ : ∃ q c, j = ix2 q c := ⟨_, _, eq_ix2 j⟩
  have hq : q.val < 512 := q.isLt
  have hc : c.val < 192 := c.isLt
  have eL : outArr (F := Ideal) a (ix2 q c) = outWord (F := Ideal) (flat (F := Ideal) a) (q.val * 192 + c.val) := by
    refine (shapeCast_apply (outFlat (F := Ideal) (flat (F := Ideal) a)) _ (ix2 q c) (ix1 (⟨q.val * 192 + c.val, by omega⟩ : Fin 98304)) ?_).trans rfl
    rw [Shape.rowMajor_val_one, Shape.rowMajor_val_two]
    rfl
  have eR : result (F := Ideal) a (ix2 q c)
      = means (F := Ideal) a (ix2 (⟨(q.val * 192 + c.val) / 32, by omega⟩ : Fin 3072) (⟨(q.val * 192 + c.val) % 32, by omega⟩ : Fin 32)) := by
    refine shapeCast_apply (means (F := Ideal) a) _ (ix2 q c) _ ?_
    rw [Shape.rowMajor_val_two, Shape.rowMajor_val_two]
    exact Nat.div_add_mod' _ _
  rw [eL, eR, ← outWord_eq]
  exact congrArg _ (Nat.div_add_mod' _ _).symm

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Reference.Equation
public import Idealize.ShloMosaic.Adequacy
public import Idealize.ShloMosaic.Init

@[expose] public section

noncomputable section

namespace Cert.Proof

open Idealize.ShloMosaic Idealize.SL.Sem Cert.Kernel

/-- The kernel's run ends with its argument unchanged and every counter at zero. -/
theorem kernel_frame : Cert.quiescent_Kernel := fun m g _ =>
  (θ_run Cert.Kernel.defs _ _).mono (fun _ h => ⟨fun c => (h.1 c).1, h.2⟩) (Cert.Proof.Kernel.run_main (F := Bits) m g)

/-- So does its run over the extended reals. -/
theorem kernelIdeal_frame : Cert.quiescent_KernelIdeal := fun m g _ =>
  (θ_run Cert.KernelIdeal.defs _ _).mono (fun _ h => ⟨fun c => (h.1 c).1, h.2⟩) (Cert.Proof.KernelIdeal.run_main (F := Ideal) m g)

/-- So does the reference's. -/
theorem referenceIdeal_frame : Cert.quiescent_ReferenceIdeal := fun m g _ =>
  (θ_run Cert.ReferenceIdeal.defs _ _).mono
    (fun r h => ⟨fun c => (h c).2, Idealize.ShloMosaic.sem_eq_zero_of_no_sems (by decide) r.2⟩) (Cert.ReferenceIdeal.Value.run (F := Ideal) m g)

/-- The two constants that are named stand for 1/334 and 1/333. -/
theorem preserves : Cert.preserves_Kernel_KernelIdeal :=
  ⟨IdealRules.named_const.statement Cert.KernelIdeal.κ "r0" .f32 0x3B443730#32 ((1 / 334 : ℝ) : EReal) rfl,
    IdealRules.named_const.statement Cert.KernelIdeal.κ "r1" .f32 0x3B44CE08#32 ((1 / 333 : ℝ) : EReal) rfl⟩

/-- The kernel and the reference end with the same result. -/
theorem algebraic : Cert.algebraic_KernelIdeal_ReferenceIdeal := by
  intro m g m' g' _ hm
  refine ⟨fun c => Cert.Proof.KernelIdeal.outArr (F := Ideal) (m (c.tc.loc Cert.KernelIdeal.main_arg0)), ?_, ?_⟩
  · exact (θ_run Cert.KernelIdeal.defs _ _).mono (fun _ h c => ⟨(h.1 c).2, (h.1 c).1⟩) (Cert.Proof.KernelIdeal.run_main (F := Ideal) m g)
  · refine (θ_run Cert.ReferenceIdeal.defs _ _).mono (fun r h c => ⟨?_, (h c).2⟩) (Cert.ReferenceIdeal.Value.run (F := Ideal) m' g')
    rw [(h c).1, Cert.Proof.Reference.result_eq, hm c]
    exact (Cert.Proof.Reference.outArr_eq _).symm

theorem claim : Cert.Claim := ⟨Cert.Kernel.Gen.facts, Cert.KernelIdeal.Gen.facts, Cert.ReferenceIdeal.Gen.facts,
  kernel_frame, kernelIdeal_frame, referenceIdeal_frame, preserves, algebraic⟩

end Cert.Proof

end
